-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x512 : Shape := ⟨3, ![1, 1024, 512]⟩
abbrev S512 : Shape := ⟨1, ![512]⟩
abbrev S512x512 : Shape := ⟨2, ![512, 512]⟩
abbrev S4x128x512 : Shape := ⟨3, ![4, 128, 512]⟩
abbrev S4 : Shape := ⟨1, ![4]⟩
abbrev S_ : Shape := ⟨0, ![]⟩
abbrev S1x128x512 : Shape := ⟨3, ![1, 128, 512]⟩
abbrev S128x512 : Shape := ⟨2, ![128, 512]⟩
abbrev S1 : Shape := ⟨1, ![1]⟩
abbrev S1x512 : Shape := ⟨2, ![1, 512]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S1x1024x512, .bf16⟩
  | .hbm, ⟨1, _⟩ => ⟨S512, .bf16⟩
  | .hbm, ⟨2, _⟩ => ⟨S512x512, .bf16⟩
  | .local _ .vmem, ⟨0, _⟩ => ⟨S1x1024x512, .bf16⟩
  | .local _ .vmem, ⟨1, _⟩ => ⟨S512, .bf16⟩
  | .local _ .vmem, ⟨2, _⟩ => ⟨S512x512, .bf16⟩
  | .local _ .vmem, ⟨3, _⟩ => ⟨S4x128x512, .bf16⟩
  | .local _ .vmem, ⟨4, _⟩ => ⟨S4x128x512, .bf16⟩
  | _, _ => ⟨S1x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_5 : BitVec 32 := 16#32
  let v12 : BitVec 32 := Scalar.muli v9 c16_i32_5
  let v13 : BitVec 32 := Scalar.addi c0_i32 v12
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_off1 (d0 : Dev nD) (c0_i32_9 : BitVec 32) : Fin 3 → Nat :=
  let c0 : Index := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c512_i32 : BitVec 32 := 512#32
  let v18 : BitVec 32 := Scalar.muli v10 c512_i32
  let v19 : BitVec 32 := Scalar.addi v18 c0_i32_9
  let v20 : Index := Scalar.indexCast v19
  let c0_10 : Index := 0#32
  ![0, v20.toNat, 0]
def k0_dev2 (d0 : Dev nD) : Nat :=
  let c0_i32_19 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_18 : BitVec 32 := 16#32
  let v26 : BitVec 32 := Scalar.muli v9 c16_i32_18
  let v27 : BitVec 32 := Scalar.addi c0_i32_19 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_20 : BitVec 32 := 4#32
  let v28 : BitVec 32 := Scalar.muli v5 c4_i32_20
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v30 : BitVec 32 := Scalar.muli v8 c1_i32_21
  let v31 : BitVec 32 := Scalar.addi v29 v30
  v31.toNat
def k0_dev3 (d0 : Dev nD) : Nat :=
  let c0_i32_36 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_35 : BitVec 32 := 16#32
  let v48 : BitVec 32 := Scalar.muli v9 c16_i32_35
  let v49 : BitVec 32 := Scalar.addi c0_i32_36 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v50 : BitVec 32 := Scalar.muli v5 c4_i32_37
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v52 : BitVec 32 := Scalar.muli v8 c1_i32_38
  let v53 : BitVec 32 := Scalar.addi v51 v52
  v53.toNat
def k0_dev4 (d0 : Dev nD) : Nat :=
  let c0_i32_53 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_52 : BitVec 32 := 16#32
  let v70 : BitVec 32 := Scalar.muli v9 c16_i32_52
  let v71 : BitVec 32 := Scalar.addi c0_i32_53 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_54 : BitVec 32 := 4#32
  let v72 : BitVec 32 := Scalar.muli v5 c4_i32_54
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v74 : BitVec 32 := Scalar.muli v8 c1_i32_55
  let v75 : BitVec 32 := Scalar.addi v73 v74
  v75.toNat
def k0_dev5 (d0 : Dev nD) : Nat :=
  let c0_i32_69 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_68 : BitVec 32 := 16#32
  let v92 : BitVec 32 := Scalar.muli v9 c16_i32_68
  let v93 : BitVec 32 := Scalar.addi c0_i32_69 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v94 : BitVec 32 := Scalar.muli v5 c4_i32_70
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v96 : BitVec 32 := Scalar.muli v8 c1_i32_71
  let v97 : BitVec 32 := Scalar.addi v95 v96
  v97.toNat
def k0_off2 (d0 : Dev nD) (c0_i32_90 : BitVec 32) : Fin 3 → Nat :=
  let c0_91 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_89 : BitVec 32 := 512#32
  let v121 : BitVec 32 := Scalar.muli v2 c512_i32_89
  let v122 : BitVec 32 := Scalar.addi v121 c0_i32_90
  let v123 : Index := Scalar.indexCast v122
  let c0_92 : Index := 0#32
  ![0, v123.toNat, 0]
abbrev stage0_0 : Fin 1 → Memref sig .tc .vmem S1x1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512, .bf16⟩
  | .hbm, ⟨2, _⟩ => ⟨S2x1024x512, .f32⟩
  | .hbm, ⟨3, _⟩ => ⟨S512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x512, .f32⟩
  | .hbm, ⟨18, _⟩ => ⟨S1024x512, .f32⟩
  | .hbm, ⟨19, _⟩ => ⟨S1x512, .f32⟩
  | .hbm, ⟨20, _⟩ => ⟨S1024x512, .f32⟩
  | .hbm, ⟨21, _⟩ => ⟨S1024x512, .f32⟩
  | .hbm, ⟨22, _⟩ => ⟨S1024x512, .bf16⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Slots.lean ====
/-
The two exchange buffers of the kernel, slot by slot, and the contents that pass through them.

Each device stages its block of `partial` (1024 rows of 512) and splits it in two halves of 512 rows. The half that
belongs to its partner along `x` goes out in four chunks of 128 rows: chunk `k` is copied into slot `k` of the send
buffer and from there into slot `k` of the partner's receive buffer. This file names the partner, the slots, the contents
(`sent`: what a device's send buffer holds once a slot is filled) and the tile written from a chunk (`outChunk`), and
proves the four facts about buffers and views that the run uses: the slots cut a buffer into disjoint parts, a filled
slot holds `sent`, a landing copies it over unchanged, and the four tiles make up the whole output.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.WritesUnit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The partner along `x` -/

set_option backward.proofsInPublic true in
/-- The device with the other coordinate along `x` and the same along `y` and `z`. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

/-- Taking partners is a bijection of the devices. -/
def swap : Dev nD ≃ Dev nD := ⟨peer, peer, peer_peer, peer_peer⟩

theorem dev1_eq : ∀ c : Dev nD, (⟨k0_dev1 c, k0_dev1_lt c⟩ : Dev nD) = peer c := by decide +kernel
theorem dev2_eq : ∀ c : Dev nD, (⟨k0_dev2 c, k0_dev2_lt c⟩ : Dev nD) = peer c := by decide +kernel
theorem dev3_eq : ∀ c : Dev nD, (⟨k0_dev3 c, k0_dev3_lt c⟩ : Dev nD) = peer c := by decide +kernel
theorem dev4_eq : ∀ c : Dev nD, (⟨k0_dev4 c, k0_dev4_lt c⟩ : Dev nD) = peer c := by decide +kernel
theorem dev5_eq : ∀ c : Dev nD, (⟨k0_dev5 c, k0_dev5_lt c⟩ : Dev nD) = peer c := by decide +kernel

/-! ## Buffers, slots, semaphores -/

abbrev pM : Memref sig .tc .vmem S1x1024x512 .bf16 := Memref.whole cc0_stg0_0
abbrev gM : Memref sig .tc .vmem S512 .bf16 := Memref.whole cc0_stg1_0
abbrev oM : Memref sig .tc .vmem S512x512 .bf16 := Memref.whole cc0_stg2_0
abbrev sM : Memref sig .tc .vmem S4x128x512 .bf16 := Memref.whole cc0_scratch0
abbrev rM : Memref sig .tc .vmem S4x128x512 .bf16 := Memref.whole cc0_scratch1

theorem slot_inb : ∀ (k : Fin 4) (a : Fin 3), (![k.val, 0, 0] : Fin 3 → ℕ) a + S1x128x512.size a ≤ S4x128x512.size a := by
  decide

/-- Slot `k` as a rectangle of either exchange buffer: its `k`-th 128 × 512 plane. -/
abbrev slotRect (k : Fin 4) : Rect S4x128x512 := Rect.unit (s := S4x128x512) ![k.val, 0, 0] S1x128x512.size (slot_inb k)

/-- Slot `k` of the send buffer, as the transfers address it. -/
abbrev sSlot (k : Fin 4) : Memref sig .tc .vmem S128x512 .bf16 :=
  (sM.slice (slotRect k) (fun _ => rfl)).squeeze S128x512 squeezes_S1x128x512_S128x512
/-- Slot `k` of the receive buffer. -/
abbrev rSlot (k : Fin 4) : Memref sig .tc .vmem S128x512 .bf16 :=
  (rM.slice (slotRect k) (fun _ => rfl)).squeeze S128x512 squeezes_S1x128x512_S128x512

theorem sSlot_set (k : Fin 4) : (sSlot k).view.set = (slotRect k).set := by
  show (((View.whole cc0_scratch0).slice (slotRect k)).reshape _ _).set = _
  rw [View.set_reshape, View.set_slice_whole]
theorem rSlot_set (k : Fin 4) : (rSlot k).view.set = (slotRect k).set := by
  show (((View.whole cc0_scratch1).slice (slotRect k)).reshape _ _).set = _
  rw [View.set_reshape, View.set_slice_whole]

/-- Two different slots have no element in common … -/
theorem slots_disjoint (k k' : Fin 4) (h : k ≠ k') : Disjoint (slotRect k).set (slotRect k').set := by
  refine Rect.unit_disjoint (0 : Fin 3) ?_
  have hk : k.val ≠ k'.val := fun e => h (Fin.ext e)
  show k.val + 1 ≤ k'.val ∨ k'.val + 1 ≤ k.val
  omega
/-- … and together the four are the buffer. -/
theorem slots_cover : Finset.univ.biUnion (fun k : Fin 4 => (slotRect k).set) = Finset.univ := by
  refine Finset.eq_univ_iff_forall.mpr fun i => Finset.mem_biUnion.mpr ⟨i (0 : Fin 3), Finset.mem_univ _, ?_⟩
  refine Rect.mem_set_unit.mpr fun a => ?_
  have h1 : (i (1 : Fin 3)).val < 128 := (i (1 : Fin 3)).isLt
  have h2 : (i (2 : Fin 3)).val < 512 := (i (2 : Fin 3)).isLt
  fin_cases a
  · exact ⟨le_rfl, Nat.lt_succ_self _⟩
  · exact ⟨Nat.zero_le _, by simpa using h1⟩
  · exact ⟨Nat.zero_le _, by simpa using h2⟩

/-- What one slot's transfer credits. -/
abbrev N : ℕ := (rSlot 0).view.dmaCredit
theorem N_pos : 0 < N := View.dmaCredit_pos _ (by decide)
theorem credit_r (k : Fin 4) : (rSlot k).view.dmaCredit = N := rfl
theorem credit_s (k : Fin 4) : (sSlot k).view.dmaCredit = N := by decide +revert

/-! ## Contents -/

variable (m : (ℓ : Loc nD τ sig) → Buf (Elt F) ℓ)

/-- Device `c`'s staged block of `partial`. -/
def pstg (c : Dev nD) : (cc0_stg0_0 : Ref sig .tc).ty.Contents (Elt F) :=
  (win0_0.blk (0 : Fin 1)).view.read (Elt F) (m ((c : Thread nD τ).loc main_arg0))
/-- Device `c`'s staged `gamma`. -/
def gstg (c : Dev nD) : (cc0_stg1_0 : Ref sig .tc).ty.Contents (Elt F) :=
  (win0_1.blk (0 : Fin 1)).view.read (Elt F) (m ((c : Thread nD τ).loc main_arg1))

theorem sent_row (c : Dev nD) (i : S4x128x512.Idx) :
    512 - 512 * (c.val / 16) + 128 * (i (0 : Fin 3)).val + (i (1 : Fin 3)).val < 1024 := by
  have h0 : (i (0 : Fin 3)).val < 4 := (i (0 : Fin 3)).isLt
  have h1 : (i (1 : Fin 3)).val < 128 := (i (1 : Fin 3)).isLt
  omega

/-- What device `c` sends: row `r` of slot `k` is row `128 k + r` of the half that belongs to its partner. -/
def sent (c : Dev nD) : (cc0_scratch0 : Ref sig .tc).ty.Contents (Elt F) := fun i =>
  pstg m c (ix3 (0 : Fin 1) (⟨_, sent_row c i⟩ : Fin 1024) (i (2 : Fin 3)))

/-- The rows of the staged block that device `c` copies into slot `k`, as the kernel loads them … -/
abbrev outRect (c : Dev nD) (k : Fin 4) : Rect S1x1024x512 :=
  Rect.unit (s := S1x1024x512) (k0_off1 c (BitVec.ofNat 32 (128 * k.val))) S1x128x512.size (k0_off1_inb c k)
/-- … and the rows of the half it keeps that chunk `k` is summed into. -/
abbrev ownRect (c : Dev nD) (k : Fin 4) : Rect S1x1024x512 :=
  Rect.unit (s := S1x1024x512) (k0_off2 c (BitVec.ofNat 32 (128 * k.val))) S1x128x512.size (k0_off2_inb c k)

/-- Chunk `k` of the rows `c` keeps. -/
def ownChunk (c : Dev nD) (k : Fin 4) : Vec F S1x128x512 .bf16 := pM.view.readAt (Elt F) (ownRect c k).toLoadRect (pstg m c)
/-- Chunk `k` as it arrived from the partner. -/
def gotChunk (c : Dev nD) (k : Fin 4) : Vec F S1x128x512 .bf16 :=
  rM.view.readAt (Elt F) (slotRect k).toLoadRect (sent m (peer c))

abbrev gRect : Rect S512 := Rect.unit (s := S512) ![0] S512.size inb_S512_S512_0

/-- `gamma` as a row vector. -/
def gRow (c : Dev nD) : FVec F S1x512 .bf16 := k0_pay5 (gM.view.readAt (Elt F) gRect.toLoadRect (gstg m c))

/-- The normalised tile of chunk `k`. -/
def outChunk (c : Dev nD) (k : Fin 4) : FVec F S128x512 .bf16 := k0_pay6 (gRow m c) (ownChunk m c k) (gotChunk m c k)

theorem tile_lt (i : S512x512.Idx) : (i (0 : Fin 2)).val / 128 < 4 := by
  have : (i (0 : Fin 2)).val < 512 := (i (0 : Fin 2)).isLt
  omega

/-- The output of device `c`: row `r` is row `r % 128` of the tile of chunk `r / 128`. -/
def outAt (c : Dev nD) : (cc0_stg2_0 : Ref sig .tc).ty.Contents (Elt F) := fun i =>
  outChunk m c ⟨(i (0 : Fin 2)).val / 128, tile_lt i⟩
    (ix2 (⟨(i (0 : Fin 2)).val % 128, Nat.mod_lt _ (by decide)⟩ : Fin 128) (i (1 : Fin 2)))

/-! ## A filled slot, a landing, the output -/

omit [FloatOps F] in
/-- Loading a chunk of the partner's half and storing it in slot `k` leaves `sent` there, whatever the buffer held. -/
theorem fill_slot (c : Dev nD) (k : Fin 4) (f : (cc0_scratch0 : Ref sig .tc).ty.Contents (Elt F))
    (i : S4x128x512.Idx) (hi : i ∈ (slotRect k).set) :
    ((sM : Memref sig .tc .vmem S4x128x512 .bf16).access (slotRect k)).write (Elt F) f
        (pM.view.readAt (Elt F) (outRect c k).toLoadRect (pstg m c)) Finset.univ i = sent m c i := by
  rw [← Rect.map_emb_univ] at hi
  obtain ⟨x, -, rfl⟩ := Finset.mem_map.mp hi
  refine (View.write_emb_of_mem (v := (sM : Memref sig .tc .vmem S4x128x512 .bf16).access (slotRect k)) f _ (Finset.mem_univ x)).trans ?_
  show pstg m c ((outRect c k).toLoadRect.idx x) = pstg m c _
  refine congrArg (pstg m c) (funext fun a => Fin.ext ?_)
  have h0 : (x (0 : Fin 3)).val < 1 := (x (0 : Fin 3)).isLt
  have hk : k.val < 4 := k.isLt
  have hc : c.val < 32 := c.isLt
  show (k0_off1 c (BitVec.ofNat 32 (128 * k.val))) a + 1 * (x a).val = _
  rw [k0_off1_eq]
  fin_cases a
  · show 0 + 1 * (x (0 : Fin 3)).val = 0
    omega
  · show ((128 * k.val + 512) - 512 * (c.val / 16)) + 1 * (x (1 : Fin 3)).val
      = 512 - 512 * (c.val / 16) + 128 * (k.val + 1 * (x (0 : Fin 3)).val) + (0 + 1 * (x (1 : Fin 3)).val)
    omega
  · show 0 + 1 * (x (2 : Fin 3)).val = 0 + 1 * (x (2 : Fin 3)).val
    rfl

omit [FloatOps F] in
/-- A transfer from slot `k` to the partner's slot `k` carries the contents over unchanged. -/
theorem land_slot (k : Fin 4) (fd : (cc0_scratch1 : Ref sig .tc).ty.Contents (Elt F)) (fs : (cc0_scratch0 : Ref sig .tc).ty.Contents (Elt F))
    (i : S4x128x512.Idx) (hi : i ∈ (rSlot k).view.set) :
    (rSlot k).view.write (Elt F) fd ((sSlot k).view.read (Elt F) fs) Finset.univ i = fs i := by
  obtain ⟨x, -, rfl⟩ := Finset.mem_map.mp hi
  exact View.write_emb_of_mem (v := (rSlot k).view) fd _ (Finset.mem_univ x)

theorem tile_inb : ∀ (k : Fin 4) (a : Fin 2), (![128 * k.val, 0] : Fin 2 → ℕ) a + S128x512.size a ≤ S512x512.size a := by decide

/-- The rows of the output that chunk `k`'s tile takes. -/
abbrev tileRect (k : Fin 4) : Rect S512x512 := Rect.unit (s := S512x512) ![128 * k.val, 0] S128x512.size (tile_inb k)

/-- The output buffer after the tiles of chunks `0, …, n - 1` have been stored, in that order. -/
def outAfter (c : Dev nD) (f : (cc0_stg2_0 : Ref sig .tc).ty.Contents (Elt F)) : ℕ → (cc0_stg2_0 : Ref sig .tc).ty.Contents (Elt F)
  | 0 => f
  | n + 1 => if h : n < 4 then
      (oM.access (tileRect ⟨n, h⟩)).write (Elt F) (outAfter c f n) (outChunk m c ⟨n, h⟩) Finset.univ
    else outAfter c f n

/-- Once `n` tiles are stored, the first `128 n` rows are the output's. -/
theorem outAfter_row (c : Dev nD) (f : (cc0_stg2_0 : Ref sig .tc).ty.Contents (Elt F)) (i : S512x512.Idx) :
    ∀ n, n ≤ 4 → (i (0 : Fin 2)).val < 128 * n → outAfter m c f n i = outAt m c i
  | 0, _, hi => absurd hi (Nat.not_lt_zero _)
  | n + 1, hn, hi => by
    have hn4 : n < 4 := hn
    rw [outAfter, dif_pos hn4]
    by_cases hlow : (i (0 : Fin 2)).val < 128 * n
    · refine (View.write_of_not_mem _ _ _ ?_).trans (outAfter_row c f i n (by omega) hlow)
      rw [View.setOn_univ]
      show i ∉ ((View.whole cc0_stg2_0).slice (tileRect ⟨n, hn4⟩)).set
      rw [View.set_slice_whole]
      intro hmem
      have h := (Rect.mem_set_unit.mp hmem (0 : Fin 2)).1
      change 128 * n ≤ (i (0 : Fin 2)).val at h
      omega
    · have hr : (i (0 : Fin 2)).val - 128 * n < 128 := by omega
      have hemb : (oM.access (tileRect ⟨n, hn4⟩)).emb (ix2 (⟨(i (0 : Fin 2)).val - 128 * n, hr⟩ : Fin 128) (i (1 : Fin 2))) = i := by
        funext a
        apply Fin.ext
        fin_cases a
        · show 128 * n + 1 * ((i (0 : Fin 2)).val - 128 * n) = (i (0 : Fin 2)).val
          omega
        · show 0 + 1 * (i (1 : Fin 2)).val = (i (1 : Fin 2)).val
          omega
      conv_lhs => rw [← hemb]
      refine (View.write_emb_of_mem (v := oM.access (tileRect ⟨n, hn4⟩)) _ _ (Finset.mem_univ _)).trans ?_
      show outChunk m c ⟨n, hn4⟩ _ = outChunk m c ⟨(i (0 : Fin 2)).val / 128, tile_lt i⟩ _
      have hq : (⟨n, hn4⟩ : Fin 4) = ⟨(i (0 : Fin 2)).val / 128, tile_lt i⟩ := Fin.ext (by show n = (i (0 : Fin 2)).val / 128; omega)
      have hm : (⟨(i (0 : Fin 2)).val - 128 * n, hr⟩ : Fin 128) = ⟨(i (0 : Fin 2)).val % 128, Nat.mod_lt _ (by decide)⟩ :=
        Fin.ext (by show (i (0 : Fin 2)).val - 128 * n = (i (0 : Fin 2)).val % 128; omega)
      rw [hq, hm]

/-- All four stored: the output, whatever the buffer held before. -/
theorem outAfter_all (c : Dev nD) (f : (cc0_stg2_0 : Ref sig .tc).ty.Contents (Elt F)) : outAfter m c f 4 = outAt m c :=
  funext fun i => outAfter_row m c f i 4 le_rfl (i (0 : Fin 2)).isLt

/-! ## The printed payloads, under one name each -/

/-- Cast to two axes and back, a loaded chunk is itself. -/
theorem pay1_eq (v : Vec F S1x128x512 .bf16) : k0_pay1 v = v := shapeCast_shapeCast v _ _
theorem pay2_eq (v : Vec F S1x128x512 .bf16) : k0_pay2 v = v := shapeCast_shapeCast v _ _
theorem pay3_eq (v : Vec F S1x128x512 .bf16) : k0_pay3 v = v := shapeCast_shapeCast v _ _
theorem pay4_eq (v : Vec F S1x128x512 .bf16) : k0_pay4 v = v := shapeCast_shapeCast v _ _
/-- The four tiles are computed by one function. -/
theorem pay7_eq : k0_pay7 (F := F) = k0_pay6 := rfl
theorem pay8_eq : k0_pay8 (F := F) = k0_pay6 := rfl
theorem pay9_eq : k0_pay9 (F := F) = k0_pay6 := rfl

end Cert.Exchange

end
-- ==== Proof.Protocol.lean ====
/-
The exchange as a schedule of semaphores.

Nine cells a device: the barrier semaphore (cell 0), the send semaphore of each slot (cells 1 to 4) and the receive
semaphore of each slot (cells 5 to 8). Every cell is raised once and waited on once, so every cell has one round with one
duty. What a raise hands to the device that waits:

* the barrier of `c`, raised by one unit by the partner: the partner's four receive slots, to be copied into;
* the send semaphore of slot `k` of `c`, raised when `c`'s own transfer has left: the send slot again;
* the receive semaphore of slot `k` of `c`, raised when the partner's transfer has landed: the receive slot, holding
  what the partner sent.

A device that waits on its barrier still owes the partner's four landings, which sit at a higher level; every other wait
happens when it owes nothing.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's own copy beside the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

theorem sem_inb : ∀ (k : Fin 4) (a : Fin 1), (![k.val] : Fin 1 → ℕ) a + S1.size a ≤ S4.size a := by decide

abbrev barS : Sem sig := (SemArray.scalar (sig.barrier 0 rfl) : Sems sig S_).sem
/-- The send semaphore of slot `k`, as the kernel takes it out of the array of four … -/
abbrev sendS (k : Fin 4) : DmaSem sig :=
  ((cc0_scratch2.slice (Rect.unit (s := S4) ![k.val] S1.size (sem_inb k))).squeeze S_ squeezes_S1_S_).sem
/-- … and the receive semaphore. -/
abbrev recvS (k : Fin 4) : DmaSem sig :=
  ((cc0_scratch3.slice (Rect.unit (s := S4) ![k.val] S1.size (sem_inb k))).squeeze S_ squeezes_S1_S_).sem

/-- The nine semaphores of a device in one list: barrier, four sends, four receives. -/
abbrev csem : Fin 9 → SemLoc sig
  | 0 => .reg barS
  | 1 => .dma (sendS 0) | 2 => .dma (sendS 1) | 3 => .dma (sendS 2) | 4 => .dma (sendS 3)
  | 5 => .dma (recvS 0) | 6 => .dma (recvS 1) | 7 => .dma (recvS 2) | 8 => .dma (recvS 3)

/-- The place of slot `k`'s send semaphore in that list, and of its receive semaphore. -/
abbrev sx (k : Fin 4) : Fin 9 := ⟨k.val + 1, by omega⟩
abbrev rx (k : Fin 4) : Fin 9 := ⟨k.val + 5, by omega⟩

theorem csem_sx (k : Fin 4) : csem (sx k) = .dma (sendS k) := by fin_cases k <;> rfl
theorem csem_rx (k : Fin 4) : csem (rx k) = .dma (recvS k) := by fin_cases k <;> rfl

theorem csem_injective : Function.Injective csem := by decide

/-- Which of the nine a semaphore is, if any. -/
def cix (s : SemLoc sig) : Option (Fin 9) := (List.finRange 9).find? fun j => csem j = s

theorem cix_csem : ∀ j, cix (csem j) = some j := by decide

abbrev cell (c : Dev nD) (j : Fin 9) : GSem nD τ sig := ((c : Thread nD τ), csem j)

/-! ## Slots held -/

/-- Device `c` holds slot `k` of its send buffer at contents `f`. -/
def sPts (c : Dev nD) (k : Fin 4) (f : Buf (Elt F) ((c : Thread nD τ).loc cc0_scratch0)) : sProp 𝕄 :=
  ((c : Thread nD τ).loc cc0_scratch0) ↦[(slotRect k).set]{fullShare} f
/-- Device `c` holds slot `k` of its receive buffer at contents `f`. -/
def rPts (c : Dev nD) (k : Fin 4) (f : Buf (Elt F) ((c : Thread nD τ).loc cc0_scratch1)) : sProp 𝕄 :=
  ((c : Thread nD τ).loc cc0_scratch1) ↦[(slotRect k).set]{fullShare} f

omit [FloatOps F] in
instance sPts_storable (c : Dev nD) (k f) : BI.Storable (upEmb : UEmb _ 𝕄) (sPts (F := F) c k f) := by unfold sPts; infer_instance
omit [FloatOps F] in
instance rPts_storable (c : Dev nD) (k f) : BI.Storable (upEmb : UEmb _ 𝕄) (rPts (F := F) c k f) := by unfold rPts; infer_instance

omit [FloatOps F] in
theorem sPts_view (c : Dev nD) (k : Fin 4) (f) :
    sPts (F := F) c k f = ((sSlot k).view.loc (c : Thread nD τ) ↦[(sSlot k).view.set]{fullShare} f : sProp 𝕄) := by
  rw [sSlot_set]; rfl
omit [FloatOps F] in
theorem rPts_view (c : Dev nD) (k : Fin 4) (f) :
    rPts (F := F) c k f = ((rSlot k).view.loc (c : Thread nD τ) ↦[(rSlot k).view.set]{fullShare} f : sProp 𝕄) := by
  rw [rSlot_set]; rfl

/-! ## The schedule -/

/-- Slot `k` of the receive buffer, holding what the partner sent. -/
def got (c : Dev nD) (k : Fin 4) : sProp 𝕄 := rPts c k (sent m (peer c))
/-- Slot `k` of the send buffer, at any contents. -/
def freeS (c : Dev nD) (k : Fin 4) : sProp 𝕄 := iprop(∃ f, sPts (F := F) c k f)
/-- Slot `k` of the receive buffer, at any contents. -/
def freeR (c : Dev nD) (k : Fin 4) : sProp 𝕄 := iprop(∃ f, rPts (F := F) c k f)

/-- What the raise of cell `j` of device `c` hands over. -/
def pay (c : Dev nD) : Fin 9 → sProp 𝕄
  | 0 => iprop(freeR (F := F) (peer c) 0 ∗ freeR (F := F) (peer c) 1 ∗ freeR (F := F) (peer c) 2 ∗ freeR (F := F) (peer c) 3)
  | 1 => freeS c 0 | 2 => freeS c 1 | 3 => freeS c 2 | 4 => freeS c 3
  | 5 => got m c 0 | 6 => got m c 1 | 7 => got m c 2 | 8 => got m c 3

omit [FloatOps F] in
theorem pay_sx (c : Dev nD) (k : Fin 4) : pay m c (sx k) = freeS c k := by fin_cases k <;> rfl
omit [FloatOps F] in
theorem pay_rx (c : Dev nD) (k : Fin 4) : pay m c (rx k) = got m c k := by fin_cases k <;> rfl

omit [FloatOps F] in
instance freeS_storable (c : Dev nD) (k) : BI.Storable (upEmb : UEmb _ 𝕄) (freeS (F := F) c k) := by unfold freeS; infer_instance
omit [FloatOps F] in
instance freeR_storable (c : Dev nD) (k) : BI.Storable (upEmb : UEmb _ 𝕄) (freeR (F := F) c k) := by unfold freeR; infer_instance
omit [FloatOps F] in
instance got_storable (c : Dev nD) (k) : BI.Storable (upEmb : UEmb _ 𝕄) (got (F := F) m c k) := by unfold got; infer_instance

omit [FloatOps F] in
instance pay_storable (c : Dev nD) (j : Fin 9) : BI.Storable (upEmb : UEmb _ 𝕄) (pay (F := F) m c j) := by
  fin_cases j <;> (show BI.Storable upEmb (_ : sProp 𝕄)) <;> dsimp only [pay] <;> infer_instance

/-- The units one raise of cell `j` adds: one at the barrier, a slot's credit elsewhere. -/
def units (j : Fin 9) : ℕ := if j = 0 then 1 else N

theorem units_sx (k : Fin 4) : units (sx k) = N := if_neg (by revert k; decide)
theorem units_rx (k : Fin 4) : units (rx k) = N := if_neg (by revert k; decide)
theorem units_pos (j : Fin 9) : 0 < units j := by
  unfold units; split
  · exact Nat.one_pos
  · exact N_pos

/-- One round of one duty at each of the nine cells of a TensorCore. -/
def sched : Rounds.Schedule (GSem nD τ sig) Unit 𝕄 where
  duties g r := if r = 0 ∧ g.1.2 = .tc ∧ (cix g.2).isSome = true then {()} else ∅
  unitless _ := False
  amount g _ _ := (cix g.2).elim 1 units
  payload g _ _ := (cix g.2).elim iprop(emp) (pay m g.1.1)
  amount_pos g _ _ _ := by
    cases cix g.2 with
    | none => exact Nat.one_pos
    | some j => exact units_pos j

instance sched_storable (g : GSem nD τ sig) (r : ℕ) (d : Unit) : BI.Storable (upEmb : UEmb _ 𝕄) ((sched (F := F) m).payload g r d) := by
  show BI.Storable upEmb ((cix g.2).elim iprop(emp) (pay m g.1.1))
  cases cix g.2 with
  | none => show BI.Storable upEmb (iprop(emp) : sProp 𝕄); infer_instance
  | some j => exact pay_storable m g.1.1 j

omit [FloatOps F] in
theorem duties_cell (c : Dev nD) (j : Fin 9) : (sched (F := F) m).duties (cell c j) 0 = {()} :=
  if_pos ⟨rfl, rfl, by rw [cix_csem]; rfl⟩
omit [FloatOps F] in
theorem duties_later (g : GSem nD τ sig) : ∀ r, 1 ≤ r → (sched (F := F) m).duties g r = ∅ :=
  fun r hr => if_neg fun h => by omega
omit [FloatOps F] in
theorem amount_cell (c : Dev nD) (j : Fin 9) (d : Unit) : (sched (F := F) m).amount (cell c j) 0 d = units j := by
  show (cix (csem j)).elim 1 units = units j
  rw [cix_csem]; rfl
omit [FloatOps F] in
theorem payload_cell (c : Dev nD) (j : Fin 9) (d : Unit) : (sched (F := F) m).payload (cell c j) 0 d = pay m c j := by
  show (cix (csem j)).elim iprop(emp) (pay m c) = pay m c j
  rw [cix_csem]; rfl
omit [FloatOps F] in
theorem expect_cell (c : Dev nD) (j : Fin 9) : (sched (F := F) m).expect (cell c j) 0 = units j := by
  unfold Schedule.expect Schedule.amountOf; rw [duties_cell, Finset.sum_singleton, amount_cell]
omit [FloatOps F] in
theorem rest_cell (c : Dev nD) (j : Fin 9) :
    bigSep ((sched (F := F) m).duties (cell c j) 0 \ ∅) (fun d => (sched (F := F) m).payload (cell c j) 0 d) = pay m c j := by
  rw [Finset.sdiff_empty, duties_cell, bigSep_singleton, payload_cell]

/-! ## What a device owes, and the levels that order the waits -/

/-- The landing of slot `k` at the partner. -/
abbrev owedAt (c : Dev nD) (k : Fin 4) : CellTallies nD τ sig Unit := tallyAt (cell (peer c) (rx k)) () N

/-- What device `c` owes once slots `0, …, n - 1` have been sent: the landings still to come, the next on the right. -/
def owed (n : ℕ) (c : Dev nD) : CellTallies nD τ sig Unit :=
  match n with
  | 0 => 0 + owedAt c 3 + owedAt c 2 + owedAt c 1 + owedAt c 0
  | 1 => 0 + owedAt c 3 + owedAt c 2 + owedAt c 1
  | 2 => 0 + owedAt c 3 + owedAt c 2
  | 3 => 0 + owedAt c 3
  | _ + 4 => 0
/-- At launch: the four landings and one unit at the partner's barrier. -/
def owed₀ (c : Dev nD) : CellTallies nD τ sig Unit := owed 0 c + tallyAt (cell (peer c) 0) () 1

theorem owed_succ (c : Dev nD) (k : Fin 4) : owed k.val c = owed (k.val + 1) c + owedAt c k := by fin_cases k <;> rfl

def L (g : GSem nD τ sig) : Finset Unit := if g.1.2 = .tc then {()} else ∅
/-- The barrier at level 1, the landings at 2, everything else at 0. -/
def lv (g : GSem nD τ sig) (_ : Unit) : ℕ :=
  (cix g.2).elim 0 fun j => if j = 0 then 1 else if 5 ≤ j.val then 2 else 0

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) : lv (cell c 0) () = 1 := by
  show (cix (csem 0)).elim 0 _ = 1
  rw [cix_csem]; rfl
theorem lv_rx (c : Dev nD) (k : Fin 4) : lv (cell c (rx k)) () = 2 := by
  show (cix (csem (rx k))).elim 0 _ = 2
  rw [cix_csem]; fin_cases k <;> rfl
theorem lv_none (c : Dev nD) (s : SemLoc sig) (h : cix s = none) : lv ((c : Thread nD τ), s) () = 0 := by
  show (cix s).elim 0 _ = 0
  rw [h]; rfl

theorem owed_pos {c : Dev nD} {g : GSem nD τ sig} {u : Unit} (h : 0 < owed 0 c g u) : ∃ k, g = cell (peer c) (rx k) := by
  by_contra hn
  have hk : ∀ k, owedAt c k g u = 0 := fun k => by
    rw [tallyAt_apply, if_neg fun h' => hn ⟨k, h'.1⟩]
  refine absurd h (Nat.not_lt.mpr (Nat.le_of_eq ?_))
  show (((((0 : CellTallies nD τ sig Unit) + owedAt c 3) + owedAt c 2) + owedAt c 1) + owedAt c 0) g u = 0
  simp only [Pi.add_apply, Finsupp.add_apply, hk, Nat.add_zero]
  rfl

theorem owed₀_pos {c : Dev nD} {g : GSem nD τ sig} {u : Unit} (h : 0 < owed₀ c g u) :
    g = cell (peer c) 0 ∨ ∃ k, g = cell (peer c) (rx k) := by
  by_cases hb : g = cell (peer c) 0
  · exact .inl hb
  · refine .inr (owed_pos (c := c) (u := u) ?_)
    unfold owed₀ at h
    rw [Pi.add_apply, Finsupp.add_apply, tallyAt_apply, if_neg fun h' => hb h'.1] at h
    exact h

omit [FloatOps F] in
/-- A staging wait comes before everything owed. -/
theorem mayWait_stage (c : Dev nD) (s : SemLoc sig) (hs : cix s = none) (O : CellTallies nD τ sig Unit) (hO : O = owed₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases owed₀_pos hg with rfl | ⟨k, rfl⟩ <;> exact Finset.mem_singleton_self _)
      (fun p hp => by rw [Finset.mem_singleton.mp hp]; exact Nat.le_of_eq (lv_none c s hs))
      (fun g u hg => by
        rcases owed₀_pos hg with rfl | ⟨k, rfl⟩
        · exact Nat.lt_of_lt_of_eq Nat.one_pos (lv_bar _).symm
        · exact Nat.lt_of_lt_of_eq Nat.two_pos (lv_rx _ k).symm)
  · rw [MayWait_zero]; iintro -; iempintro

omit [FloatOps F] in
/-- At its barrier a device owes landings only, and they come later. -/
theorem mayWait_bar (c : Dev nD) : (levAts L lv : sProp 𝕄) ⊢ MayWait (c : Thread nD τ) (.reg barS) () (owed 0 c) :=
  MayOwe.of_cut (L := L) (lev := lv) 1 (fun p hp => by rw [Finset.mem_singleton.mp hp, L_tc]; exact Finset.mem_singleton_self _)
    (fun g u hg => by obtain ⟨k, rfl⟩ := owed_pos hg; exact Finset.mem_singleton_self _)
    (fun p hp => by rw [Finset.mem_singleton.mp hp]; exact Nat.le_of_eq (lv_bar c))
    (fun g u hg => by
      obtain ⟨k, rfl⟩ := owed_pos hg
      exact Nat.lt_of_lt_of_eq (Nat.lt_succ_self 1) (lv_rx _ k).symm)

end Cert.Exchange

end
-- ==== Proof.Steps.lean ====
/-
One rule per kind of step the kernel takes, each for any slot: signalling the partner, waiting on one of the nine cells,
filling a send slot, sending it, and writing the tile of a chunk. The kernel's text is these steps repeated for the four
slots.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device may rely on at any time -/

/-- Every cell of every device follows the schedule, and is at its round. -/
def records (K : Dev nD × Fin 9 → ℕ) : sProp 𝕄 :=
  bigSep Finset.univ fun p : Dev nD × Fin 9 => iprop(cellInv ER (sched m) (K p) (cell p.1 p.2) ∗ reached ER (cell p.1 p.2) 0)

omit [FloatOps F] in
instance records_persistent (K : Dev nD × Fin 9 → ℕ) : BI.Persistent (records (F := F) m K) := by unfold records; infer_instance

omit [FloatOps F] in
theorem records_at (K : Dev nD × Fin 9 → ℕ) (c : Dev nD) (j : Fin 9) :
    records (F := F) m K ⊢ iprop(cellInv ER (sched m) (K (c, j)) (cell c j) ∗ reached ER (cell c j) 0) :=
  bigSep_elim (Φ := fun p : Dev nD × Fin 9 => iprop(cellInv ER (sched m) (K p) (cell p.1 p.2) ∗ reached ER (cell p.1 p.2) 0))
    (Finset.mem_univ (c, j))

section Steps

variable (K : Dev nD × Fin 9 → ℕ) (c : Dev nD)

/-! ## Semaphores -/

/-- The signal to the partner's barrier: it hands over the four receive slots of the device that signals. -/
theorem wp_ready (n : Dev nD) (hn : n = peer c) {u : ℕ} (hu : u = 1) {α : Type} {Q : α → sProp 𝕄} {k' : PUnit → Prog (TpuEff nD τ sig (Elt F) Λ₀ .tc) α} (W : Waits sig Unit) :
    iprop(records m K ∗ owes (c : Thread nD τ) (owed₀ c) W ∗ dutyTok ER (cell (peer c) 0) 0 ()
        ∗ freeR (F := F) c 0 ∗ freeR (F := F) c 1 ∗ freeR (F := F) c 2 ∗ freeR (F := F) c 3)
      ⊢ iprop((owes (c : Thread nD τ) (owed 0 c) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (n : Thread nD τ) barS u) k') Q) := by
  subst hn hu
  iintro ⟨#HK, HO, Ht, H0, H1, H2, H3⟩ Hk
  ihave #Hr := (records_at m K (peer c) 0) $$ HK
  icases Hr with ⟨#HI, #HR⟩
  iapply (Rounds.wp_signal 𝒱₀ ER (sched m) (c : Thread nD τ) none (dst := (peer c : Thread nD τ)) (κ := K (peer c, 0)) (d := ())
      (by rw [show (((peer c : Dev nD) : Thread nD τ), SemLoc.reg barS) = cell (peer c) 0 from rfl, duties_cell]; exact Finset.mem_singleton_self _)
      (amount_cell m (peer c) 0 ()) () (owed 0 c) rfl) $$ [HO Ht H0 H1 H2 H3] [Hk]
  · isplitr; · iexact HI
    isplitl [HO]; · iexact HO
    isplitl [Ht]; · iexact Ht
    isplitl
    · iapply (Entails.of_eq (payload_cell m (peer c) 0 ()).symm)
      dsimp only [pay]; rw [peer_peer]
      isplitl [H0]; · iexact H0
      isplitl [H1]; · iexact H1
      isplitl [H2]; · iexact H2
      iexact H3
    iexact HR
  · iexact Hk

/-- A wait on one of a device's own nine cells, for all the units its one raise adds: what the raise hands over arrives,
    and the cell, used up, is back at zero. -/
theorem wp_take (j : Fin 9) {u : ℕ} (hu : units j = u) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem j) u K)
    {α : Type} {Q : α → sProp 𝕄} {k' : PUnit → Prog (TpuEff nD τ sig (Elt F) Λ₀ .tc) α} (O : CellTallies nD τ sig Unit) (W : Waits sig Unit) :
    iprop(records m K ∗ cred (tallyAt (cell c j) () u) ∗ owes (c : Thread nD τ) O W ∗ MayWait (c : Thread nD τ) (csem j) () O
        ∗ atPos ER (cell c j) 0 ∅ 0)
      ⊢ iprop(((owes (c : Thread nD τ) O (insert (csem j, ()) W) ∗ semVal (cell c j) 0 ∗ pay m c j)
            -∗ wp frame (wpE (defs₀ (F := F)) 𝒱₀ (c : Thread nD τ) none) Set.univ (k' ⟨⟩) Q)
          -∗ wp frame (wpE (defs₀ (F := F)) 𝒱₀ (c : Thread nD τ) none) Set.univ (.op w k') Q) := by
  iintro ⟨#HK, Hc, HO, HM, Hat⟩ Hk
  ihave #Hr := (records_at m K c j) $$ HK
  icases Hr with ⟨#HI, -⟩
  iapply (Rounds.wp_wait_rest_token 𝒱₀ ER (sched m) (c : Thread nD τ) none (κ := K (c, j)) hw (Set.mem_univ _) () (O := O) (W := W)
      (R := 0) (m := 0) (T := ∅) (by rw [Nat.zero_add, expect_cell, hu])) $$ [Hc HO HM Hat] [Hk]
  · isplitr; · iexact HI
    isplitl [Hc]; · iexact Hc
    isplitl [HO]; · iexact HO
    isplitl [HM]; · iexact HM
    iexact Hat
  · iintro ⟨HO, Hat, -, Hpay⟩
    ihave Hp := (Entails.of_eq (rest_cell m c j)) $$ Hpay
    imod (Rounds.cell_close ER (sched m) (Set.mem_univ (K (c, j))) (fun h => h) (R := 0 + 1) (duties_later m (cell c j))) $$ [Hat] with Hz
    · isplitr; · iexact HI
      iexact Hat
    iapply Hk
    isplitl [HO]; · iexact HO
    isplitl [Hz]; · iexact Hz
    iexact Hp

/-- The wait on the receive semaphore of slot `k`: the partner's chunk. -/
theorem wp_take_recv (k : Fin 4) {src : Memref sig .tc .vmem S128x512 .bf16} {hsrc : src.view.WordExact} {hdst : (rSlot k).view.WordExact}
    {α : Type} {Q : α → sProp 𝕄} {k' : PUnit → Prog (TpuEff nD τ sig (Elt F) Λ₀ .tc) α} (W : Waits sig Unit) :
    iprop(records m K ∗ cred (tallyAt (cell c (rx k)) () N) ∗ owes (c : Thread nD τ) 0 W ∗ atPos ER (cell c (rx k)) 0 ∅ 0)
      ⊢ iprop(((owes (c : Thread nD τ) 0 (insert (csem (rx k), ()) W) ∗ semVal (cell c (rx k)) 0 ∗ got m c k)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (recvS k) src (rSlot k) hsrc hdst) k') Q) := by
  iintro ⟨#HK, Hc, HO, Hat⟩ Hk
  iapply (wp_take m K c (rx k) (u := N) (units_rx k)
    (fun K' => by rw [csem_rx]; exact wpE_waitDma2_eq 𝒱₀ (c : Thread nD τ) none Set.univ K') 0 W) $$ [Hc HO Hat] [Hk]
  · isplitr; · iexact HK
    isplitl [Hc]; · iexact Hc
    isplitl [HO]; · iexact HO
    isplitr; · rw [MayWait_zero]; iempintro
    iexact Hat
  · rw [pay_rx]; iexact Hk

/-- The wait on the send semaphore of slot `k`: the slot is free again. -/
theorem wp_take_send (k : Fin 4) {src : Memref sig .tc .vmem S128x512 .bf16} {hsrc : src.view.WordExact} {hdst : (sSlot k).view.WordExact}
    {α : Type} {Q : α → sProp 𝕄} {k' : PUnit → Prog (TpuEff nD τ sig (Elt F) Λ₀ .tc) α} (W : Waits sig Unit) :
    iprop(records m K ∗ cred (tallyAt (cell c (sx k)) () N) ∗ owes (c : Thread nD τ) 0 W ∗ atPos ER (cell c (sx k)) 0 ∅ 0)
      ⊢ iprop(((owes (c : Thread nD τ) 0 (insert (csem (sx k), ()) W) ∗ semVal (cell c (sx k)) 0 ∗ freeS (F := F) c k)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (sendS k) src (sSlot k) hsrc hdst) k') Q) := by
  iintro ⟨#HK, Hc, HO, Hat⟩ Hk
  iapply (wp_take m K c (sx k) (u := N) (units_sx k)
    (fun K' => by
      rw [csem_sx, ← credit_s k]
      exact wpE_waitDma2_eq 𝒱₀ (c : Thread nD τ) none Set.univ K') 0 W) $$ [Hc HO Hat] [Hk]
  · isplitr; · iexact HK
    isplitl [Hc]; · iexact Hc
    isplitl [HO]; · iexact HO
    isplitr; · rw [MayWait_zero]; iempintro
    iexact Hat
  · rw [pay_sx]; iexact Hk

/-- The transfer of slot `k`, filled, to the partner's slot `k`, which the partner has handed over. -/
theorem wp_send_slot (n : Dev nD) (hn : n = peer c) (k : Fin 4) {sS rS : SemLoc sig} (hS : sS = csem (sx k)) (hR : rS = csem (rx k))
    {hsc : (rSlot k : Memref sig (Dev.tc n : Thread nD τ).2.kind .vmem S128x512 .bf16).view.ref.isScScratch = false}
    {hsrc : (sSlot k).view.WordExact} {hdst : (rSlot k).view.WordExact}
    {hsem : DmaTarget.Typed .vmem rS (.remote (Dev.tc n : Thread nD τ) (rSlot k : Memref sig .tc .vmem S128x512 .bf16) sS hsc)}
    {α : Type} {Q : α → sProp 𝕄} {k' : PUnit → Prog (TpuEff nD τ sig (Elt F) Λ₀ .tc) α} (W : Waits sig Unit) :
    iprop(records m K ∗ sPts c k (sent m c) ∗ freeR (F := F) (peer c) k ∗ owes (c : Thread nD τ) (owed k.val c) W
        ∗ dutyTok ER (cell c (sx k)) 0 () ∗ dutyTok ER (cell (peer c) (rx k)) 0 ())
      ⊢ iprop(((cred (tallyAt (cell c (sx k)) () N) ∗ owes (c : Thread nD τ) (owed (k.val + 1) c) W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (sSlot k) (.remote (Dev.tc n : Thread nD τ) (rSlot k : Memref sig .tc .vmem S128x512 .bf16) sS hsc) rS hsrc hdst hsem) k') Q) := by
  subst hn hS hR
  unfold freeR
  iintro ⟨#HK, HS, ⟨%fd, HR⟩, HO, Ht1, Ht2⟩ Hk
  ihave #H1 := (records_at m K c (sx k)) $$ HK
  ihave #H2 := (records_at m K (peer c) (rx k)) $$ HK
  icases H1 with ⟨#HI1, #HR1⟩
  icases H2 with ⟨#HI2, #HR2⟩
  ihave HS := (Entails.of_eq (sPts_view c k (sent m c))) $$ HS
  ihave HR := (Entails.of_eq (rPts_view (peer c) k fd)) $$ HR
  iapply (Rounds.wp_send_pointsTo 𝒱₀ ER (sched m) (c : Thread nD τ) none (κ₁ := K (c, sx k)) (κ₂ := K (peer c, rx k))
    (r₁ := 0) (r₂ := 0) (d₁ := ()) (d₂ := ()) (fd := fd)
    (by rw [duties_cell]; exact Finset.mem_singleton_self _)
    (by rw [show (((peer c).tc : Thread nD τ), csem (rx k)) = cell (peer c) (rx k) from rfl, duties_cell]; exact Finset.mem_singleton_self _)
    () () N (by rw [csem_rx]) ((amount_cell m c (sx k) ()).trans (units_sx k)) ((amount_cell m (peer c) (rx k) ()).trans (units_rx k))
    (owed (k.val + 1) c) (owed_succ c k) (W := W)
    (by rw [payload_cell, pay_sx, ← sPts_view]; unfold freeS; iintro H; iexists (sent m c); iexact H)
    (by
      rw [show (((peer c).tc : Thread nD τ), csem (rx k)) = cell (peer c) (rx k) from rfl, payload_cell, pay_rx]
      unfold got; rw [peer_peer, rPts_view]
      exact Entails.of_eq (pointsTo_congr fun i hi => land_slot k fd (sent m c) i hi))) $$ [HS HR HO Ht1 Ht2] [Hk]
  · isplitr; · iexact HI1
    isplitr; · iexact HI2
    isplitl [HS]; · iexact HS
    isplitl [HR]; · iexact HR
    isplitl [HO]; · iexact HO
    isplitl [Ht1]; · iexact Ht1
    isplitr; · iexact HR1
    isplitl [Ht2]; · iexact Ht2
    iexact HR2
  · iexact Hk

/-! ## Loads and stores -/

/-- The staged block of `partial`, held whole; `gamma`; the output at contents `f`. -/
def pPts : sProp 𝕄 := ((c : Thread nD τ).loc cc0_stg0_0) ↦{fullShare} pstg m c
def gPts : sProp 𝕄 := ((c : Thread nD τ).loc cc0_stg1_0) ↦{fullShare} gstg m c
def oPts (f : Buf (Elt F) ((c : Thread nD τ).loc cc0_stg2_0)) : sProp 𝕄 := ((c : Thread nD τ).loc cc0_stg2_0) ↦{fullShare} f

omit [FloatOps F] in
/-- A send slot just filled holds what is sent. -/
theorem filled (k : Fin 4) (f : Buf (Elt F) ((c : Thread nD τ).loc cc0_scratch0)) :
    (((c : Thread nD τ).loc cc0_scratch0) ↦[(slotRect k).set]{fullShare}
        ((sM.access (slotRect k)).write (Elt F) f (pM.view.readAt (Elt F) (outRect c k).toLoadRect (pstg m c)) Finset.univ) : sProp 𝕄)
      = (((c : Thread nD τ).loc cc0_scratch0) ↦[(slotRect k).set]{fullShare} sent m c) :=
  pointsTo_congr fun i hi => fill_slot m c k f i hi

/-- Filling send slot `k`: the chunk is loaded, the slot's old contents are loaded and not used, the chunk is stored. -/
theorem wp_fill (k : Fin 4) {h1 h2 h3 h4} {α : Type} {Q : α → sProp 𝕄} {k' : PUnit → Prog (TpuEff nD τ sig (Elt F) Λ₀ .tc) α} :
    iprop(pPts m c ∗ freeS (F := F) c k)
      ⊢ iprop(((pPts m c ∗ sPts c k (sent m c)) -∗ wp frame (wpE (defs₀ (F := F)) 𝒱₀ (c : Thread nD τ) none) Set.univ (k' ⟨⟩) Q)
          -∗ wp frame (wpE (defs₀ (F := F)) 𝒱₀ (c : Thread nD τ) none) Set.univ
              (.op (.load pM (outRect c k).toLoadRect h1) fun v =>
                .op (.load sM (slotRect k).toLoadRect h2) fun _ =>
                .op (.store sM (slotRect k) v Finset.univ h3 h4) k') Q) := by
  unfold pPts freeS sPts
  iintro ⟨HP, ⟨%f, HS⟩⟩ Hk
  iapply (wp_load 𝒱₀ (c : Thread nD τ) none Set.univ (m := pM) (Finset.subset_univ _)) $$ HP; iintro HP
  iapply (wp_load 𝒱₀ (c : Thread nD τ) none Set.univ (m := sM) (S := (slotRect k).set) (Finset.map_refl.subset)) $$ HS; iintro HS
  iapply (wp_store 𝒱₀ (c : Thread nD τ) none Set.univ (m := sM) (r := slotRect k) (Mk := Finset.univ) (S := (slotRect k).set)
    (View.set_slice_whole cc0_scratch0 (slotRect k)).subset) $$ HS; iintro HS
  iapply Hk
  isplitl [HP]; · iexact HP
  rw [← filled m c k f]
  iexact HS

/-- The tile of chunk `k`: the device's own rows and the partner's are loaded, the output's old rows are loaded and not
    used, the tile is stored. -/
theorem wp_tile (k : Fin 4) {h1 h2 h3 h4 h5} {α : Type} {Q : α → sProp 𝕄} {k' : PUnit → Prog (TpuEff nD τ sig (Elt F) Λ₀ .tc) α}
    (f : (cc0_stg2_0 : Ref sig .tc).ty.Contents (Elt F)) :
    iprop(pPts m c ∗ got m c k ∗ oPts c (outAfter m c f k.val))
      ⊢ iprop(((pPts m c ∗ got m c k ∗ oPts c (outAfter m c f (k.val + 1)))
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.load pM (ownRect c k).toLoadRect h1) fun v =>
                .op (.load rM (slotRect k).toLoadRect h2) fun w =>
                .op (.load oM (tileRect k).toLoadRect h3) fun _ =>
                .op (.store oM (tileRect k) (k0_pay6 (gRow m c) v w) Finset.univ h4 h5) k') Q) := by
  unfold pPts got rPts oPts
  iintro ⟨HP, HR, HO⟩ Hk
  iapply (wp_load 𝒱₀ (c : Thread nD τ) none Set.univ (m := pM) (Finset.subset_univ _)) $$ HP; iintro HP
  iapply (wp_load 𝒱₀ (c : Thread nD τ) none Set.univ (m := rM) (S := (slotRect k).set) (Finset.map_refl.subset)) $$ HR; iintro HR
  iapply (wp_load 𝒱₀ (c : Thread nD τ) none Set.univ (m := oM) (Finset.subset_univ _)) $$ HO; iintro HO
  iapply (wp_store 𝒱₀ (c : Thread nD τ) none Set.univ (m := oM) (r := tileRect k) (Mk := Finset.univ) (Finset.subset_univ _)) $$ HO; iintro HO
  iapply Hk
  isplitl [HP]; · iexact HP
  isplitl [HR]; · iexact HR
  rw [outAfter, dif_pos k.isLt]
  iexact HO

end Steps

end Cert.Exchange

end
-- ==== Proof.Body.lean ====
/-
One device's body, from what the launch gives it to what it leaves: the steps in the program's order.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Listing the four slots and the nine cells -/

omit [FloatOps F] in
theorem over4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem over9 (Φ : Fin 9 → sProp 𝕄) :
    bigSep Finset.univ Φ = iprop(Φ 0 ∗ Φ (sx 0) ∗ Φ (sx 1) ∗ Φ (sx 2) ∗ Φ (sx 3) ∗ Φ (rx 0) ∗ Φ (rx 1) ∗ Φ (rx 2) ∗ Φ (rx 3)) :=
  bigSep_univ_eq_bigSepL [0, sx 0, sx 1, sx 2, sx 3, rx 0, rx 1, rx 2, rx 3] (by decide) (by decide) Φ

/-! ## What a device starts from and ends with -/

/-- A device's own part of the exchange: it is at the start of its nine cells, and it alone raises its partner's barrier,
    its own send semaphores and its partner's receive semaphores. -/
def mine (c : Dev nD) : sProp 𝕄 :=
  iprop((bigSep Finset.univ fun j : Fin 9 => atPos ER (cell c j) 0 ∅ 0)
    ∗ dutyTok ER (cell (peer c) 0) 0 ()
    ∗ (bigSep Finset.univ fun k : Fin 4 => dutyTok ER (cell c (sx k)) 0 ())
    ∗ (bigSep Finset.univ fun k : Fin 4 => dutyTok ER (cell (peer c) (rx k)) 0 ()))

/-- What the device is promised at the launch: its barrier's unit and its four landings. -/
def promised (c : Dev nD) : sProp 𝕄 :=
  iprop(cred (tallyAt (cell c 0) () 1) ∗ bigSep Finset.univ fun k : Fin 4 => cred (tallyAt (cell c (rx k)) () N))

def start (c : Dev nD) : sProp 𝕄 :=
  iprop((∃ K, records m K ∗ mine c) ∗ promised c ∗ levAts L lv)

/-- The two exchange buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)

def Φ₁ (c : Dev nD) : sProp 𝕄 := iprop((bigSep Finset.univ fun j : Fin 9 => semVal (cell c j) 0) ∗ scratch (F := F) c)

omit [FloatOps F] in
/-- The exchange buffers are their slots. -/
theorem scratch_slots (c : Dev nD) :
    scratch (F := F) c ⊢ iprop((bigSep Finset.univ fun k => freeS c k) ∗ (bigSep Finset.univ fun k => freeR (F := F) c k)) := by
  unfold scratch
  iintro ⟨⟨%f, Hs⟩, ⟨%g, Hr⟩⟩
  isplitl [Hs]
  · ihave H := (Entails.of_eq (Ring.pointsTo_blocks (ℓ := (c : Thread nD τ).loc cc0_scratch0) (fun k : Fin 4 => (slotRect k).set) slots_disjoint slots_cover f)) $$ Hs
    have e : (bigSep Finset.univ fun k : Fin 4 => sPts (F := F) c k f) ⊢ bigSep Finset.univ fun k => freeS (F := F) c k :=
      bigSep_mono fun k _ => exists_intro (Φ := fun f => sPts (F := F) c k f) f
    iapply e; unfold sPts; iexact H
  · ihave H := (Entails.of_eq (Ring.pointsTo_blocks (ℓ := (c : Thread nD τ).loc cc0_scratch1) (fun k : Fin 4 => (slotRect k).set) slots_disjoint slots_cover g)) $$ Hr
    have e : (bigSep Finset.univ fun k : Fin 4 => rPts (F := F) c k g) ⊢ bigSep Finset.univ fun k => freeR (F := F) c k :=
      bigSep_mono fun k _ => exists_intro (Φ := fun f => rPts (F := F) c k f) g
    iapply e; unfold rPts; iexact H

include m in
/-- The slots, at any contents, are the exchange buffers. -/
theorem slots_scratch (c : Dev nD) :
    iprop((bigSep Finset.univ fun k => freeS c k) ∗ (bigSep Finset.univ fun k => freeR (F := F) c k)) ⊢ scratch (F := F) c := by
  unfold scratch freeS freeR sPts rPts
  iintro ⟨Hs, Hr⟩
  isplitl [Hs]
  · iapply (Ring.pointsTo_blocks_join_exists (ℓ := (c : Thread nD τ).loc cc0_scratch0) (fun k : Fin 4 => (slotRect k).set) slots_disjoint slots_cover (sent m c)); iexact Hs
  · iapply (Ring.pointsTo_blocks_join_exists (ℓ := (c : Thread nD τ).loc cc0_scratch1) (fun k : Fin 4 => (slotRect k).set) slots_disjoint slots_cover (sent m c)); iexact Hr

/-- The proof data of the one grid point: the inputs stay, the output block is `outAt`. -/
def dats (_ : Fin 1) (c : Dev nD) : Dat τ (Elt F) Unit ℕ UU ℕ cfg0 c where
  A w := m ((cfg0.win w).arr.view.loc (c : Thread nD τ))
  after w _ := match w with
    | ⟨0, _⟩ => pstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => owed₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ (F := F) c ∗ (dats m 0 c).owesAt () t0_0.succ
    ∗ stg c cc0_stg0_0 (pstg m c) ∗ stg c cc0_stg1_0 (gstg m c) ∗ stg c cc0_stg2_0 (outAt m c))

/-! ## The body -/

set_option maxHeartbeats 4000000 in
set_option maxRecDepth 4000 in
theorem sound_body (c : Dev nD) :
    bodyPre m c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _) cc0_scratch2 cc0_scratch3)
          (fun _ => bodyPost m c) := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId,
    pay1_eq, pay2_eq, pay3_eq, pay4_eq, pay7_eq, pay8_eq, pay9_eq]

  unfold bodyPre Φ₀ start
  simp only [mine, promised, over9, over4]
  iintro ⟨⟨⟨⟨%K, #HK, ⟨HatB, HatS0, HatS1, HatS2, HatS3, HatR0, HatR1, HatR2, HatR3⟩, HtB, ⟨HtS0, HtS1, HtS2, HtS3⟩, HtR0, HtR1, HtR2, HtR3⟩,
    ⟨HcB, HcR0, HcR1, HcR2, HcR3⟩, #Hlev⟩, Hscr⟩, Ho, ⟨%d0, %g0, %hg0, Hp⟩, ⟨%d1, %g1, %hg1, Hg⟩, ⟨%d2, %g2, %hg2, Hout⟩⟩
  have h0 : g0 = pstg m c := by rw [hg0]; unfold Dat.before; rw [if_pos (fetch_0 t0_0)]; rfl
  have h1 : g1 = gstg m c := by rw [hg1]; unfold Dat.before; rw [if_pos (fetch_1 t0_0)]; rfl
  subst h0 h1
  unfold Dat.owesAt Pipeline.owesWithin
  icases Ho with ⟨%W, %hW, HO⟩
  rw [show (dats m 0 c).owed t0_0.castSucc = owed₀ c from rfl]
  ihave Hsl := (scratch_slots (F := F) c) $$ Hscr
  simp only [over4]
  icases Hsl with ⟨⟨HS0, HS1, HS2, HS3⟩, HR0, HR1, HR2, HR3⟩
  ihave Hp := (Entails.of_eq (show (((c : Thread nD τ).loc cc0_stg0_0) ↦{fullShare} pstg m c : sProp 𝕄) = pPts m c from rfl)) $$ Hp
  ihave Hout := (Entails.of_eq (show (((c : Thread nD τ).loc cc0_stg2_0) ↦{fullShare} g2 : sProp 𝕄) = oPts c (outAfter m c g2 0) from rfl)) $$ Hout
  -- the partner is told that this device's receive slots are free, and tells the same
  iapply (wp_ready m K c _ (dev1_eq c) (by decide) W) $$ [HO HtB HR0 HR1 HR2 HR3]
  · isplitr; · iexact HK
    isplitl [HO]; · iexact HO
    isplitl [HtB]; · iexact HtB
    isplitl [HR0]; · iexact HR0
    isplitl [HR1]; · iexact HR1
    isplitl [HR2]; · iexact HR2
    iexact HR3
  iintro HO
  iapply (wp_take m K c 0 (u := 1) rfl (fun K' => wpE_semWait_eq 𝒱₀ (c : Thread nD τ) none Set.univ K') (owed 0 c) W) $$ [HcB HO HatB]
  · isplitr; · iexact HK
    isplitl [HcB]; · iexact HcB
    isplitl [HO]; · iexact HO
    isplitr; · iapply (mayWait_bar c); iexact Hlev
    iexact HatB
  iintro ⟨HO, HzB, Hpay⟩
  ihave Hpay := (Entails.of_eq (show pay m c 0 = iprop(freeR (peer c) 0 ∗ freeR (peer c) 1 ∗ freeR (peer c) 2 ∗ freeR (peer c) 3) from rfl)) $$ Hpay
  icases Hpay with ⟨HR0, HR1, HR2, HR3⟩
  -- slot 0 is filled and sent
  iapply (wp_fill m c 0) $$ [Hp HS0]
  · isplitl [Hp]; · iexact Hp
    iexact HS0
  iintro ⟨Hp, HS0⟩
  iapply (wp_send_slot m K c _ (dev2_eq c) 0 rfl rfl _) $$ [HS0 HR0 HO HtS0 HtR0]
  · isplitr; · iexact HK
    isplitl [HS0]; · iexact HS0
    isplitl [HR0]; · iexact HR0
    isplitl [HO]; · iexact HO
    isplitl [HtS0]; · iexact HtS0
    iexact HtR0
  iintro ⟨HcS0, HO⟩
  -- slot 1 is filled and sent
  iapply (wp_fill m c 1) $$ [Hp HS1]
  · isplitl [Hp]; · iexact Hp
    iexact HS1
  iintro ⟨Hp, HS1⟩
  iapply (wp_send_slot m K c _ (dev3_eq c) 1 rfl rfl _) $$ [HS1 HR1 HO HtS1 HtR1]
  · isplitr; · iexact HK
    isplitl [HS1]; · iexact HS1
    isplitl [HR1]; · iexact HR1
    isplitl [HO]; · iexact HO
    isplitl [HtS1]; · iexact HtS1
    iexact HtR1
  iintro ⟨HcS1, HO⟩
  -- slot 2 is filled and sent
  iapply (wp_fill m c 2) $$ [Hp HS2]
  · isplitl [Hp]; · iexact Hp
    iexact HS2
  iintro ⟨Hp, HS2⟩
  iapply (wp_send_slot m K c _ (dev4_eq c) 2 rfl rfl _) $$ [HS2 HR2 HO HtS2 HtR2]
  · isplitr; · iexact HK
    isplitl [HS2]; · iexact HS2
    isplitl [HR2]; · iexact HR2
    isplitl [HO]; · iexact HO
    isplitl [HtS2]; · iexact HtS2
    iexact HtR2
  iintro ⟨HcS2, HO⟩
  -- slot 3 is filled and sent
  iapply (wp_fill m c 3) $$ [Hp HS3]
  · isplitl [Hp]; · iexact Hp
    iexact HS3
  iintro ⟨Hp, HS3⟩
  iapply (wp_send_slot m K c _ (dev5_eq c) 3 rfl rfl _) $$ [HS3 HR3 HO HtS3 HtR3]
  · isplitr; · iexact HK
    isplitl [HS3]; · iexact HS3
    isplitl [HR3]; · iexact HR3
    isplitl [HO]; · iexact HO
    isplitl [HtS3]; · iexact HtS3
    iexact HtR3
  iintro ⟨HcS3, HO⟩
  -- every landing is paid for: the device owes nothing from here on
  rw [show owed ((3 : Fin 4).val + 1) c = 0 from rfl]
  iapply (wp_load 𝒱₀ (c : Thread nD τ) none Set.univ (m := gM) (Finset.subset_univ _)) $$ Hg; iintro Hg
  iapply (wp_take_recv m K c 0 _) $$ [HcR0 HO HatR0]
  · isplitr; · iexact HK
    isplitl [HcR0]; · iexact HcR0
    isplitl [HO]; · iexact HO
    iexact HatR0
  iintro ⟨HO, HzR0, HR0⟩
  iapply (wp_tile m c 0 g2) $$ [Hp HR0 Hout]
  · isplitl [Hp]; · iexact Hp
    isplitl [HR0]; · iexact HR0
    iexact Hout
  iintro ⟨Hp, HR0, Hout⟩
  iapply (wp_take_recv m K c 1 _) $$ [HcR1 HO HatR1]
  · isplitr; · iexact HK
    isplitl [HcR1]; · iexact HcR1
    isplitl [HO]; · iexact HO
    iexact HatR1
  iintro ⟨HO, HzR1, HR1⟩
  iapply (wp_tile m c 1 g2) $$ [Hp HR1 Hout]
  · isplitl [Hp]; · iexact Hp
    isplitl [HR1]; · iexact HR1
    iexact Hout
  iintro ⟨Hp, HR1, Hout⟩
  iapply (wp_take_recv m K c 2 _) $$ [HcR2 HO HatR2]
  · isplitr; · iexact HK
    isplitl [HcR2]; · iexact HcR2
    isplitl [HO]; · iexact HO
    iexact HatR2
  iintro ⟨HO, HzR2, HR2⟩
  iapply (wp_tile m c 2 g2) $$ [Hp HR2 Hout]
  · isplitl [Hp]; · iexact Hp
    isplitl [HR2]; · iexact HR2
    iexact Hout
  iintro ⟨Hp, HR2, Hout⟩
  iapply (wp_take_recv m K c 3 _) $$ [HcR3 HO HatR3]
  · isplitr; · iexact HK
    isplitl [HcR3]; · iexact HcR3
    isplitl [HO]; · iexact HO
    iexact HatR3
  iintro ⟨HO, HzR3, HR3⟩
  iapply (wp_tile m c 3 g2) $$ [Hp HR3 Hout]
  · isplitl [Hp]; · iexact Hp
    isplitl [HR3]; · iexact HR3
    iexact Hout
  iintro ⟨Hp, HR3, Hout⟩
  iapply (wp_take_send m K c 0 _) $$ [HcS0 HO HatS0]
  · isplitr; · iexact HK
    isplitl [HcS0]; · iexact HcS0
    isplitl [HO]; · iexact HO
    iexact HatS0
  iintro ⟨HO, HzS0, HS0⟩
  iapply (wp_take_send m K c 1 _) $$ [HcS1 HO HatS1]
  · isplitr; · iexact HK
    isplitl [HcS1]; · iexact HcS1
    isplitl [HO]; · iexact HO
    iexact HatS1
  iintro ⟨HO, HzS1, HS1⟩
  iapply (wp_take_send m K c 2 _) $$ [HcS2 HO HatS2]
  · isplitr; · iexact HK
    isplitl [HcS2]; · iexact HcS2
    isplitl [HO]; · iexact HO
    iexact HatS2
  iintro ⟨HO, HzS2, HS2⟩
  iapply (wp_take_send m K c 3 _) $$ [HcS3 HO HatS3]
  · isplitr; · iexact HK
    isplitl [HcS3]; · iexact HcS3
    isplitl [HO]; · iexact HO
    iexact HatS3
  iintro ⟨HO, HzS3, HS3⟩
  rw [wp_ret]; imodintro
  unfold bodyPost Φ₁ Dat.owesAt Pipeline.owesWithin
  rw [show (dats m 0 c).owed t0_0.succ = 0 from rfl]
  isplitl [HzB HzS0 HzS1 HzS2 HzS3 HzR0 HzR1 HzR2 HzR3 HS0 HS1 HS2 HS3 HR0 HR1 HR2 HR3]
  · isplitl [HzB HzS0 HzS1 HzS2 HzS3 HzR0 HzR1 HzR2 HzR3]
    · rw [over9]
      isplitl [HzB]; · iexact HzB
      isplitl [HzS0]; · iexact HzS0
      isplitl [HzS1]; · iexact HzS1
      isplitl [HzS2]; · iexact HzS2
      isplitl [HzS3]; · iexact HzS3
      isplitl [HzR0]; · iexact HzR0
      isplitl [HzR1]; · iexact HzR1
      isplitl [HzR2]; · iexact HzR2
      iexact HzR3
    · iapply (slots_scratch m c)
      rw [over4, over4]
      isplitl [HS0 HS1 HS2 HS3]
      · isplitl [HS0]; · iexact HS0
        isplitl [HS1]; · iexact HS1
        isplitl [HS2]; · iexact HS2
        iexact HS3
      unfold freeR got
      isplitl [HR0]; · iexists _; iexact HR0
      isplitl [HR1]; · iexists _; iexact HR1
      isplitl [HR2]; · iexists _; iexact HR2
      iexists _; iexact HR3
  isplitl [HO]
  · iexists (insert (csem (sx 3), ()) (insert (csem (sx 2), ()) (insert (csem (sx 1), ()) (insert (csem (sx 0), ()) (insert (csem (rx 3), ()) (insert (csem (rx 2), ()) (insert (csem (rx 1), ()) (insert (csem (rx 0), ()) (insert (csem 0, ()) W)))))))))
    isplitr; · ipureintro; exact fun _ _ => Or.inl trivial
    iexact HO
  isplitl [Hp]
  · iexists _; isplitr; · (ipureintro; rfl)
    unfold pPts; iexact Hp
  isplitl [Hg]
  · iexists _; isplitr; · (ipureintro; rfl)
    iexact Hg
  iexists _; isplitr; · (ipureintro; exact (outAfter_all m c g2))
  unfold oPts; iexact Hout

set_option maxRecDepth 4000 in
/-- The obligation the pipeline asks of the body, on every device. -/
theorem body_obligation (c : Dev nD) : BodyObligation (dats (F := F) m 0 c) (defs₀ (F := F)) 𝒱₀ () Set.univ := fun t => by
  rw [fin_N0 t]
  rw [bigSep_W0, bigSep_W0]
  simp only [owns_whole]
  exact sound_body m c

end Cert.Exchange

end
-- ==== Proof.Launch.lean ====
/-
The launch: the ghost state of the 32 devices is minted, each device's nine counters become cells of the schedule, the
right to raise a cell is dealt to the device that raises it, and the launch theorem runs the 32 bodies.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## Minting -/

/-- The eight semaphores the kernel allocates: the cells after the barrier's. -/
abbrev osem : Fin 8 → SemLoc sig := fun j => csem j.succ

theorem ownSemFacts : Pipeline.OwnSemFacts cfg0.spec osem := by decide

theorem share_full (c : Dev nD) (w : Fin cfg0.W) : (dats m 0 c).share w = fullShare := by unfold Dat.share; split <;> rfl

theorem cell_inj {a b : Dev nD} {i j : Fin 9} (h : cell a i = cell b j) : a = b ∧ i = j :=
  ⟨congrArg (fun g : GSem nD τ sig => g.1.1) h, csem_injective (congrArg Prod.snd h)⟩

theorem cell_eq_iff {a b : Dev nD} {i j : Fin 9} : cell a i = cell b j ↔ a = b ∧ i = j :=
  ⟨cell_inj, fun ⟨h, h'⟩ => by rw [h, h']⟩

/-- All cells, and the one duty of each. -/
def allCells : Finset (GSem nD τ sig) :=
  Finset.univ.map ⟨fun p : Dev nD × Fin 9 => cell p.1 p.2, fun p q h => Prod.ext (cell_inj h).1 (cell_inj h).2⟩
def allDuties : Finset (GSem nD τ sig × ℕ × Unit) :=
  Finset.univ.map ⟨fun p : Dev nD × Fin 9 => (cell p.1 p.2, 0, ()),
    fun p q h => Prod.ext (cell_inj (congrArg Prod.fst h)).1 (cell_inj (congrArg Prod.fst h)).2⟩

def u₀ : UU :=
  (initOf (Pipeline.cells cfgs cellOf_inj) (Pipeline.launchToks cfgs cellOf_inj), initOf allCells allDuties)

/-- What is minted for device `c`: the state, the position and the duty of each of its cells. -/
def minted (c : Dev nD) : sProp 𝕄 :=
  iprop((bigSep Finset.univ fun j : Fin 9 => roundState ER (sched m) (cell c j) 0)
    ∗ (bigSep Finset.univ fun j : Fin 9 => reached ER (cell c j) 0)
    ∗ (bigSep Finset.univ fun j : Fin 9 => atPos ER (cell c j) 0 ∅ 0)
    ∗ (bigSep Finset.univ fun j : Fin 9 => dutyTok ER (cell c j) 0 ()))

/-- What device `c` has once the cells are set up. -/
def dealt (c : Dev nD) : sProp 𝕄 := iprop(∃ K, records m K ∗ mine c)

omit [FloatOps F] in
theorem mint : BI.own (ER (initOf allCells allDuties)) ⊢ (|==> bigSep Finset.univ (minted m) : sProp 𝕄) := by
  have hC (Φ : GSem nD τ sig → sProp 𝕄) :
      bigSep allCells Φ = bigSep Finset.univ fun c : Dev nD => bigSep Finset.univ fun j : Fin 9 => Φ (cell c j) := by
    unfold allCells; rw [bigSep_map, bigSep_univ_prod]; rfl
  have hD : bigSep allDuties (fun x => (dutyTok ER x.1 x.2.1 x.2.2 : sProp 𝕄))
      = bigSep Finset.univ fun c : Dev nD => bigSep Finset.univ fun j : Fin 9 => dutyTok ER (cell c j) 0 () := by
    unfold allDuties; rw [bigSep_map, bigSep_univ_prod]; rfl
  iintro HX
  imod (Rounds.fund ER (sched m) allCells allDuties) $$ HX with ⟨Hst, Hr, Hat, Htok⟩
  imodintro
  unfold minted; simp only [bigSep_sep']
  isplitl [Hst]; · iapply (Entails.of_eq (hC fun g => roundState ER (sched m) g 0)); iexact Hst
  isplitl [Hr]; · iapply (Entails.of_eq (hC fun g => reached ER g 0)); iexact Hr
  isplitl [Hat]; · iapply (Entails.of_eq (hC fun g => atPos ER g 0 ∅ 0)); iexact Hat
  iapply (Entails.of_eq hD); iexact Htok

/-! ## The counters become cells -/

omit [FloatOps F] in
theorem ownSems_eq (c : Dev nD) :
    (Pipeline.ownSems0 (Ix := Unit) (Name := ℕ) (U := UU) (Lvl := ℕ) (Val := Elt F) (τ := τ) osem c : sProp 𝕄)
      = iprop(semVal (cell c (sx 0)) 0 ∗ semVal (cell c (sx 1)) 0 ∗ semVal (cell c (sx 2)) 0 ∗ semVal (cell c (sx 3)) 0
          ∗ semVal (cell c (rx 0)) 0 ∗ semVal (cell c (rx 1)) 0 ∗ semVal (cell c (rx 2)) 0 ∗ semVal (cell c (rx 3)) 0) := by
  rw [Pipeline.ownSems0_eq_of_list c osem [0, 1, 2, 3, 4, 5, 6, 7] (by decide) (by decide)]; rfl

omit [FloatOps F] in
theorem barrierSem_eq (c : Dev nD) : (unscopedSems0 c : sProp 𝕄) = semVal (cell c 0) 0 := by
  unfold unscopedSems0; rw [bigSep_eq_bigSepL_of_eq [SemLoc.reg barS] (by decide) (by decide)]; rfl

omit [FloatOps F] in
/-- The launch's counters of a device are its nine cells' counters. -/
theorem counters (c : Dev nD) :
    iprop(unscopedSems0 c ∗ Pipeline.ownSems0 (Ix := Unit) (Name := ℕ) (U := UU) (Lvl := ℕ) (Val := Elt F) (τ := τ) osem c)
      = (bigSep Finset.univ fun j : Fin 9 => semVal (cell c j) 0 : sProp 𝕄) := by
  rw [ownSems_eq, barrierSem_eq, over9]

omit [FloatOps F] in
theorem setup (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun j => iprop(∃ κ : ℕ, cellInv ER (sched m) κ (cell c j)))
          ∗ (bigSep Finset.univ fun j : Fin 9 => reached ER (cell c j) 0)
          ∗ (bigSep Finset.univ fun j : Fin 9 => atPos ER (cell c j) 0 ∅ 0)
          ∗ (bigSep Finset.univ fun j : Fin 9 => dutyTok ER (cell c j) 0 ())) := by
  unfold minted
  iintro ⟨Hos, Hus, Hst, Hrest⟩
  ihave Hv := (Entails.of_eq (counters (F := F) c)) $$ [Hos Hus]
  · isplitl [Hus] <;> iassumption
  have e : iprop((bigSep Finset.univ fun j : Fin 9 => semVal (cell c j) 0) ∗ bigSep Finset.univ fun j : Fin 9 => roundState ER (sched m) (cell c j) 0)
      ⊢ (|={Set.univ}=> bigSep Finset.univ fun j => iprop(∃ κ : ℕ, cellInv ER (sched m) κ (cell c j)) : sProp 𝕄) := by
    rw [← bigSep_sep']
    exact (bigSep_mono fun j _ => (Rounds.body_intro ER (sched m) (cell c j)).trans inv_alloc).trans (bigSep_fupd _ _)
  imod e $$ [Hv Hst] with Hinv
  · isplitl [Hv] <;> iassumption
  imodintro
  isplitl [Hinv]; · iexact Hinv
  iexact Hrest

omit [FloatOps F] in
/-- A device's duties: the barrier's, the four sends', the four receives'. -/
theorem by_kind (Φ : Fin 9 → sProp 𝕄) :
    bigSep Finset.univ Φ
      ⊢ iprop(Φ 0 ∗ (bigSep Finset.univ fun k : Fin 4 => Φ (sx k)) ∗ bigSep Finset.univ fun k : Fin 4 => Φ (rx k)) := by
  rw [over9, over4, over4]
  iintro ⟨H0, H1, H2, H3, H4, H5, H6, H7, H8⟩
  isplitl [H0]; · iexact H0
  isplitl [H1 H2 H3 H4]
  · isplitl [H1]; · iexact H1
    isplitl [H2]; · iexact H2
    isplitl [H3]; · iexact H3
    iexact H4
  isplitl [H5]; · iexact H5
  isplitl [H6]; · iexact H6
  isplitl [H7]; · iexact H7
  iexact H8

omit [FloatOps F] in
/-- The duties change hands: the barrier's and the receives' go to the partner, which raises those cells. -/
theorem hand_over :
    (bigSep Finset.univ fun c : Dev nD => bigSep Finset.univ fun j : Fin 9 => (dutyTok ER (cell c j) 0 () : sProp 𝕄))
      ⊢ bigSep Finset.univ fun c : Dev nD => iprop(dutyTok ER (cell (peer c) 0) 0 ()
          ∗ (bigSep Finset.univ fun k : Fin 4 => dutyTok ER (cell c (sx k)) 0 ())
          ∗ (bigSep Finset.univ fun k : Fin 4 => dutyTok ER (cell (peer c) (rx k)) 0 ())) := by
  refine (bigSep_mono fun c _ => by_kind (F := F) fun j => dutyTok ER (cell c j) 0 ()).trans ?_
  rw [bigSep_sep', bigSep_sep', bigSep_sep', bigSep_sep',
    bigSep_univ_equiv swap (fun c : Dev nD => (dutyTok ER (cell c 0) 0 () : sProp 𝕄)),
    bigSep_univ_equiv swap (fun c : Dev nD => (bigSep Finset.univ fun k : Fin 4 => dutyTok ER (cell c (rx k)) 0 () : sProp 𝕄))]
  exact Entails.refl _

omit [FloatOps F] in
/-- What all may rely on, once, and a part for each: every device has both. -/
theorem share_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem deal :
    (bigSep Finset.univ fun c : Dev nD => iprop((bigSep Finset.univ fun j => iprop(∃ κ : ℕ, cellInv ER (sched m) κ (cell c j)))
          ∗ (bigSep Finset.univ fun j : Fin 9 => reached ER (cell c j) 0)
          ∗ (bigSep Finset.univ fun j : Fin 9 => atPos ER (cell c j) 0 ∅ 0)
          ∗ (bigSep Finset.univ fun j : Fin 9 => dutyTok ER (cell c j) 0 ())) : sProp 𝕄)
      ⊢ bigSep Finset.univ (dealt m) := by
  rw [bigSep_sep', bigSep_sep', bigSep_sep',
    ← bigSep_univ_prod (fun p : Dev nD × Fin 9 => iprop(∃ κ : ℕ, cellInv ER (sched m) κ (cell p.1 p.2))),
    ← bigSep_univ_prod (fun p : Dev nD × Fin 9 => (reached ER (cell p.1 p.2) 0 : sProp 𝕄))]
  iintro ⟨HI, HR, Hat, Htok⟩
  ihave HK := (BI.bigSep_exists_pi Finset.univ (fun (p : Dev nD × Fin 9) (κ : ℕ) => (cellInv ER (sched m) κ (cell p.1 p.2) : sProp 𝕄))) $$ HI
  icases HK with ⟨%K, HI⟩
  ihave Hd := (hand_over (F := F)) $$ Htok
  have e : ∀ c : Dev nD, iprop(records m K ∗ mine (F := F) c) ⊢ dealt m c := fun c => by
    unfold dealt; iintro H; iexists K; iexact H
  iapply (share_records (R := records m K) e)
  isplitl [HI HR]
  · unfold records; rw [bigSep_sep']
    isplitl [HI] <;> iassumption
  · iapply (Entails.of_eq (bigSep_sep' Finset.univ (fun c : Dev nD => bigSep Finset.univ fun j : Fin 9 => (atPos ER (cell c j) 0 ∅ 0 : sProp 𝕄)) fun c : Dev nD =>
      iprop(dutyTok ER (cell (peer c) 0) 0 ()
          ∗ (bigSep Finset.univ fun k : Fin 4 => dutyTok ER (cell c (sx k)) 0 ())
          ∗ (bigSep Finset.univ fun k : Fin 4 => dutyTok ER (cell (peer c) (rx k)) 0 ()))).symm)
    isplitl [Hat] <;> iassumption

omit [FloatOps F] in
theorem setup_all :
    (bigSep Finset.univ fun c => iprop(Pipeline.ownSems0 (Ix := Unit) (Name := ℕ) (U := UU) (Lvl := ℕ) (Val := Elt F) (τ := τ) osem c
        ∗ unscopedSems0 c ∗ minted m c) : sProp 𝕄)
      ⊢ |={Set.univ}=> bigSep Finset.univ (dealt m) :=
  ((bigSep_mono fun c _ => setup m c).trans (bigSep_fupd _ _)).trans (BI.fupd_mono (deal m))

/-! ## What is owed is promised -/

theorem eq_peer_iff {c d : Dev nD} : c = peer d ↔ d = peer c :=
  ⟨fun h => by rw [h, peer_peer], fun h => by rw [h, peer_peer]⟩

theorem owed₀_at (d c : Dev nD) (j : Fin 9) :
    owed₀ d (cell c j) () = if d = peer c then (if j = 0 then 1 else if 5 ≤ j then N else 0) else 0 := by
  have e (i : Fin 9) (n : ℕ) : (tallyAt (cell (peer d) i) () n : CellTallies nD τ sig Unit) (cell c j) ()
      = if d = peer c then (if j = i then n else 0) else 0 := by
    rw [tallyAt_apply, ← ite_and]
    refine if_congr ?_ rfl rfl
    rw [cell_eq_iff, eq_peer_iff]
    exact ⟨fun h => h.1, fun h => ⟨h, rfl⟩⟩
  unfold owed₀ owed owedAt
  simp only [Pi.add_apply, Finsupp.add_apply, e, Pi.zero_apply, Finsupp.zero_apply]
  by_cases h : d = peer c
  · simp only [if_pos h]
    fin_cases j <;> simp (decide := true)
  · simp only [if_neg h]

omit [FloatOps F] in
theorem credit_at (c : Dev nD) (j : Fin 9) (n : ℕ) (h : (if j = 0 then 1 else if 5 ≤ j then N else 0) = n) :
    tallyOn (cell c j) (launchCredit (Pipeline.owing owed₀) 0 (cell c j)) = (tallyAt (cell c j) () n : CellTallies nD τ sig Unit) := by
  unfold tallyAt; refine congrArg _ (Finsupp.ext fun u => ?_); cases u
  rw [Pipeline.launchCredit_owing, Finsupp.single_eq_same, Finset.sum_congr rfl fun d _ => owed₀_at d c j,
    Finset.sum_ite_eq' Finset.univ (peer c), if_pos (Finset.mem_univ _), h]

omit [FloatOps F] in
theorem promises (c : Dev nD) : (Pipeline.launchCred owed₀ c : sProp 𝕄) ⊢ promised c := by
  unfold Pipeline.launchCred promised
  refine (bigSep_subset (Finset.subset_univ (Finset.univ.map ⟨csem, csem_injective⟩))).trans ?_
  rw [bigSep_map]
  refine (by_kind (F := F) _).trans ?_
  iintro ⟨H0, -, H2⟩
  isplitl [H0]
  · iapply (Entails.of_eq (congrArg cred (credit_at c 0 1 rfl))); iexact H0
  · have e : (bigSep Finset.univ fun k : Fin 4 => (cred (tallyOn (cell c (rx k)) (launchCredit (Pipeline.owing owed₀) 0 (cell c (rx k)))) : sProp 𝕄))
        ⊢ bigSep Finset.univ fun k : Fin 4 => cred (tallyAt (cell c (rx k)) () N) :=
      bigSep_mono fun k _ => Entails.of_eq (congrArg cred (credit_at c (rx k) N (by fin_cases k <;> rfl)))
    iapply e; iexact H2

/-! ## The side conditions of the launch theorem -/

omit [FloatOps F] in
theorem begins (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt m c)
      ⊢ |={Set.univ}=> iprop(start m c ∗ emp) := by
  iintro ⟨-, Hlev, Hcr, -, HG⟩
  ihave Hc := (promises (F := F) c) $$ Hcr
  imodintro
  unfold start dealt
  isplitl
  · isplitl [HG]; · iexact HG
    isplitl [Hc]; · iexact Hc
    iexact Hlev
  · iempintro

theorem enters (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem leaves (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [← counters]
  iintro ⟨⟨Hu, Ho⟩, Hr⟩
  isplitl [Hu]; · iexact Hu
  isplitl [Ho] <;> iassumption

theorem staging_waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- A device's array of window `w` after the run. -/
def final (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = final m c w

set_option maxRecDepth 8000 in
/-- From any memory with all counters zero, on any float values: the 32 devices finish, every array ends at `final`, and
    every counter is zero again. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := owed₀) (howed₀ := fun _ => rfl) (howedN := fun _ => rfl)
    (L := L) (lv := lv) (hL := L_of_ne) (hwaits := staging_waits m)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := setup_all m)
    (hA := fun _ _ => rfl) (hpf := fun _ k => k.elim0)
    (X := start m) (Y := fun c => unscopedSems0 c) (Z := fun _ => iprop(emp))
    (hX := begins m ρ) (hin := enters m) (hout := leaves m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they began. -/
theorem final_partial (c : Dev nD) : final m c (0 : Fin 3) = m (win0_0.arr.view.loc (c : Thread nD τ)) :=
  (dats (F := F) m 0 c).arrAt_in (0 : Fin 3) rfl _
theorem final_gamma (c : Dev nD) : final m c (1 : Fin 3) = m (win0_1.arr.view.loc (c : Thread nD τ)) :=
  (dats (F := F) m 0 c).arrAt_in (1 : Fin 3) rfl _

end Cert.Exchange

end
-- ==== Proof.Value.lean ====
/-
What the 32 devices compute, over the extended reals.

A row of the output is a row of the sum over `x` of the two blocks of `partial`, divided by the root of (the mean of its
squares plus a small constant), times `gamma`. Both programs reach that form: `tile_apply` reads a tile of the kernel at
an index, `refOut_apply` reads the reference's result. What differs is how the sum is taken. A device of the first half
of the mesh adds block 1, received, to its own block 0; a device of the second half adds block 0, received, to its own
block 1; the reference adds the two in order. `halves` is that one use of commutativity.
-/
module

public import proofs.«01_k».proof.Proof.Launch
public import proofs.«01_k».proof.Proof.Gen.ReferenceIdeal.Run
public import Idealize.ShloMosaic.Lib.Layout
public import Idealize.ShloMosaic.Lib.Pointwise
public import Idealize.ShloMosaic.PureOps.Ideal

@[expose] public section

noncomputable section

namespace Cert.Exchange

open Cert.KernelIdeal Cert.KernelIdeal.Gen

open Idealize.ShloMosaic
open Idealize.ShloMosaic.TcCoe
open Idealize.SL.Sem

/-! ## The arrays' blocks are the arrays -/

section Arrays

variable {F : FTy → Type} [FloatOps F] (m : (ℓ : Loc nD τ sig) → Buf (Elt F) ℓ)

omit [FloatOps F] in
/-- The staged block of `partial` is the device's array of it. -/
theorem pstg_apply (c : Dev nD) (i : S1x1024x512.Idx) : pstg m c i = m ((c : Thread nD τ).loc main_arg0) i := by
  refine congrArg (m ((c : Thread nD τ).loc main_arg0)) (funext fun a => Fin.ext ?_)
  fin_cases a
  · show 0 + 1 * (i (0 : Fin 3)).val = (i (0 : Fin 3)).val
    omega
  · show 0 + 1 * (i (1 : Fin 3)).val = (i (1 : Fin 3)).val
    omega
  · show 0 + 1 * (i (2 : Fin 3)).val = (i (2 : Fin 3)).val
    omega

omit [FloatOps F] in
/-- The staged `gamma` is the device's array of it. -/
theorem gstg_apply (c : Dev nD) (i : S512.Idx) : gstg m c i = m ((c : Thread nD τ).loc main_arg1) i := by
  refine congrArg (m ((c : Thread nD τ).loc main_arg1)) (funext fun a => Fin.ext ?_)
  fin_cases a
  show 0 + 1 * (i (0 : Fin 1)).val = (i (0 : Fin 1)).val
  omega

/-- The output array ends holding the assembled tiles. -/
theorem final_out (c : Dev nD) (i : S512x512.Idx) : final m c (2 : Fin 3) i = outAt m c i := by
  have hread : (win0_2.blk (0 : Fin 1)).view.read (Elt F) (final m c (2 : Fin 3)) = outAt m c := by
    unfold final
    rw [show cfg0.N = ((0 : Fin 1) : Fin cfg0.N).val + 1 from rfl, (dats m 0 c).arrAt_succ (2 : Fin 3) (0 : Fin 1),
      show (cfg0.win (2 : Fin 3)).flush (0 : Fin 1) = true from by decide, if_pos rfl]
    exact View.read_write_univ _ _
  rw [← hread]
  refine congrArg (final m c (2 : Fin 3)) (funext fun a => Fin.ext ?_)
  fin_cases a
  · show (i (0 : Fin 2)).val = 0 + 1 * (i (0 : Fin 2)).val
    omega
  · show (i (1 : Fin 2)).val = 0 + 1 * (i (1 : Fin 2)).val
    omega

/-- The whole row of `gamma`, as loaded. -/
theorem gload_apply (c : Dev nD) (l : Fin 512) :
    gM.view.readAt (Elt F) gRect.toLoadRect (gstg m c) (ix1 l) = m ((c : Thread nD τ).loc main_arg1) (ix1 l) := by
  refine Eq.trans ?_ (gstg_apply m c (ix1 l))
  refine congrArg (gstg m c) (funext fun a => Fin.ext ?_)
  fin_cases a
  show 0 + 1 * l.val = l.val
  omega

/-- Row `r` of output chunk `k`, as a row of the whole result. -/
theorem row_lt (c : Dev nD) (k : Fin 4) (r : Fin 128) : 512 * (c.val / 16) + 128 * k.val + r.val < 1024 := by
  have := c.isLt; have := k.isLt; have := r.isLt
  change c.val < 32 at *
  omega
abbrev rowOf (c : Dev nD) (k : Fin 4) (r : Fin 128) : Fin 1024 := ⟨512 * (c.val / 16) + 128 * k.val + r.val, row_lt c k r⟩

/-- The kept chunk `k` holds the device's rows of that range … -/
theorem own_apply (c : Dev nD) (k : Fin 4) (r : Fin 128) (l : Fin 512) :
    ownChunk m c k (ix3 0 r l) = m ((c : Thread nD τ).loc main_arg0) (ix3 0 (rowOf c k r) l) := by
  refine Eq.trans ?_ (pstg_apply m c (ix3 0 (rowOf c k r) l))
  refine congrArg (pstg m c) (funext fun a => Fin.ext ?_)
  show (k0_off2 c (BitVec.ofNat 32 (128 * k.val))) a + 1 * (ix3 (0 : Fin 1) r l a).val = _
  rw [k0_off2_eq]
  fin_cases a
  · rfl
  · show (512 * (c.val / 16) + 128 * k.val) + 1 * r.val = 512 * (c.val / 16) + 128 * k.val + r.val
    omega
  · show 0 + 1 * l.val = l.val
    omega

/-- … and the received one the partner's rows of the same range. -/
theorem got_apply (c : Dev nD) (k : Fin 4) (r : Fin 128) (l : Fin 512) :
    gotChunk m c k (ix3 0 r l) = m ((peer c : Thread nD τ).loc main_arg0) (ix3 0 (rowOf c k r) l) := by
  refine Eq.trans ?_ (pstg_apply m (peer c) (ix3 0 (rowOf c k r) l))
  have hc : c.val < 32 := c.isLt
  have hk : k.val < 4 := k.isLt
  refine congrArg (pstg m (peer c)) (funext fun a => Fin.ext ?_)
  fin_cases a
  · rfl
  · show 512 - 512 * ((c.val + 16) % 32 / 16) + 128 * (k.val + 1 * 0) + (0 + 1 * r.val) = 512 * (c.val / 16) + 128 * k.val + r.val
    omega
  · show 0 + 1 * l.val = l.val
    omega

end Arrays

/-! ## The sum over `x` -/

set_option backward.proofsInPublic true in
/-- A device's coordinate along `x`. -/
abbrev along (c : Dev nD) : Fin 2 := ⟨c.val / 16, by have : c.val < 32 := c.isLt; omega⟩

theorem along_cases : ∀ c : Dev nD, (along c = 0 ∧ along (peer c) = 1) ∨ (along c = 1 ∧ along (peer c) = 0) := by decide

/-- A device's own value plus its partner's is the sum over the axis. -/
theorem halves (c : Dev nD) (f : Fin 2 → EReal) : f (along c) + f (along (peer c)) = ∑ x : Fin 2, f x := by
  rw [Fin.sum_univ_two]
  rcases along_cases c with ⟨h, h'⟩ | ⟨h, h'⟩ <;> rw [h, h']
  exact add_comm _ _

/-! ## Both programs at an index -/

/-- Entry `l` of the row `y`, normalised and scaled by `g`. -/
def normed (y g : Fin 512 → EReal) (l : Fin 512) : EReal :=
  Ideal.div (y l) (Ideal.sqrt (Ideal.div (∑ x, y x * y x) (Ideal.ofBits .f32 0x44000000#32) + Ideal.ofBits .f32 0x358637BD#32)) * g l

/-- A tile of the kernel: the rows of two summed chunks, normalised. -/
theorem tile_apply (g : Vec Ideal S512 .bf16) (a b : Vec Ideal S1x128x512 .bf16) (r : Fin 128) (l : Fin 512) :
    k0_pay6 (F := Ideal) (k0_pay5 g) a b (ix2 r l) = normed (fun x => a (ix3 0 r x) + b (ix3 0 r x)) (fun x => g (ix1 x)) l := by
  pointwise [k0_pay6, k0_pay5, normed]

/-- The reference's result as a term of its two arguments. -/
def refOut (p : FVec Ideal ReferenceIdeal.S2x1024x512 .bf16) (g : FVec Ideal ReferenceIdeal.S512 .bf16) :
    FVec Ideal ReferenceIdeal.S1024x512 .bf16 :=
  have s : FVec Ideal ReferenceIdeal.S1024x512 .f32 :=
    Host.reduceAdd (extf .f32 p ReferenceIdeal.Gen.bitsLt_bf16_f32) (constant ReferenceIdeal.S_ .f32 0x00000000#32)
      ReferenceIdeal.Gen.reducesTo_S2x1024x512_S1024x512_d0 ReferenceIdeal.Gen.h_S_
  have q : FVec Ideal ReferenceIdeal.S1024 .f32 :=
    Host.reduceAdd (mulf s s) (constant ReferenceIdeal.S_ .f32 0x00000000#32)
      ReferenceIdeal.Gen.reducesTo_S1024x512_S1024_d1 ReferenceIdeal.Gen.h_S_
  have d : FVec Ideal ReferenceIdeal.S1024x1 .f32 :=
    Host.sqrt (addf
      (Host.divf (broadcastInDim ReferenceIdeal.S1024x1 ![0] ReferenceIdeal.Gen.bcast_S1024_S1024x1_0 q)
        (broadcastInDim ReferenceIdeal.S1024x1 ![] ReferenceIdeal.Gen.bcast_S_S1024x1 (constant ReferenceIdeal.S_ .f32 0x44000000#32)))
      (broadcastInDim ReferenceIdeal.S1024x1 ![] ReferenceIdeal.Gen.bcast_S_S1024x1 (constant ReferenceIdeal.S_ .f32 0x358637BD#32)))
  truncf .bf16 (mulf
    (Host.divf s (broadcastInDim ReferenceIdeal.S1024x512 ![0, 1] ReferenceIdeal.Gen.bcast_S1024x1_S1024x512_0_1 d))
    (broadcastInDim ReferenceIdeal.S1024x512 ![0, 1] ReferenceIdeal.Gen.bcast_S1x512_S1024x512_0_1
      (broadcastInDim ReferenceIdeal.S1x512 ![1] ReferenceIdeal.Gen.bcast_S512_S1x512_1
        (extf .f32 g ReferenceIdeal.Gen.bitsLt_bf16_f32)))) ReferenceIdeal.Gen.bitsLt_bf16_f32

theorem refOut_apply (p : FVec Ideal ReferenceIdeal.S2x1024x512 .bf16) (g : FVec Ideal ReferenceIdeal.S512 .bf16)
    (r : Fin 1024) (l : Fin 512) :
    refOut p g (ix2 r l) = normed (fun x => ∑ k : Fin 2, p (ix3 k r x)) (fun x => g (ix1 x)) l := by
  pointwise [refOut, normed]

/-! ## They agree -/

/-- A device's part of the result is its rows of the reference's, once its arguments are its parts of the reference's. -/
theorem out_eq (m : (ℓ : Loc nD τ sig) → Buf (Elt Ideal) ℓ) (p : FVec Ideal ReferenceIdeal.S2x1024x512 .bf16)
    (g : FVec Ideal ReferenceIdeal.S512 .bf16)
    (hp : ∀ c : Dev nD, m ((c : Thread nD τ).loc main_arg0)
      = Layout.blockN ⟨3, ![1, 1024, 512]⟩ ⟨3, ![2, 1024, 512]⟩ (Layout.meshBlock [2, 4, 4] ![[0], [], []] c) p)
    (hg : ∀ c : Dev nD, m ((c : Thread nD τ).loc main_arg1) = g) (c : Dev nD) (i : S512x512.Idx) :
    outAt m c i = refOut p g (ix2
      (rowOf c ⟨(i (0 : Fin 2)).val / 128, tile_lt i⟩ ⟨(i (0 : Fin 2)).val % 128, Nat.mod_lt _ (by decide)⟩) (i (1 : Fin 2))) := by
  have hrow (d : Dev nD) (r : Fin 1024) (x : Fin 512) : m ((d : Thread nD τ).loc main_arg0) (ix3 0 r x) = p (ix3 (along d) r x) := by
    rw [hp d]
    refine congrArg p (funext fun a => Fin.ext ?_)
    have hd : d.val < 32 := d.isLt
    fin_cases a
    · show (d.val / 16 % 2 * 1 + 0) * 1 + 0 = d.val / 16
      omega
    · show 0 * 1024 + r.val = r.val
      omega
    · show 0 * 512 + x.val = x.val
      omega
  refine (tile_apply _ _ _ _ _).trans ((congrArg₂ (fun y w => normed y w (i (1 : Fin 2))) (funext fun x => ?_) (funext fun x => ?_)).trans
    (refOut_apply p g _ _).symm)
  · rw [own_apply, got_apply, hrow, hrow]
    exact halves c fun k => p (ix3 k _ x)
  · rw [gload_apply, hg]

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The run, read at the arguments and the counters; over any float values, so that it serves both readings of the text. -/
theorem frame_run {F : FTy → Type} [FloatOps F]
    (m : (ℓ : Loc KernelIdeal.nD KernelIdeal.τ KernelIdeal.sig) → Buf (Elt F) ℓ) (g : Dev KernelIdeal.nD → PrngReg) :
    θ_run (KernelIdeal.defs (F := F)) (onTc (τ := KernelIdeal.τ) (KernelIdeal.main (F := F))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono
    (fun _ h => ⟨fun c => ⟨(h.1 c (0 : Fin 3)).trans (Exchange.final_partial m c), (h.1 c (1 : Fin 3)).trans (Exchange.final_gamma m c)⟩, h.2⟩)
    (Exchange.run_main m g)

/-- The two printed texts are one program: their tables of bodies are equal … -/
theorem bodies_eq {F : FTy → Type} [FloatOps F] : Kernel.defs₀ (F := F) = KernelIdeal.defs₀ (F := F) := by
  unfold Kernel.defs₀ KernelIdeal.defs₀
  refine congrArg Defs.onTc (funext fun l => funext fun a => ?_)
  match l, a with
  | ⟨0, _⟩, (t, s) => rfl

/-- … and so are the tables with the pipeline around them. -/
theorem defs_eq {F : FTy → Type} [FloatOps F] : Kernel.defs (F := F) = KernelIdeal.defs (F := F) :=
  congrArg (Pipeline.defs (KernelIdeal.pcfgs (F := F))) bodies_eq

theorem frame_kernel : Cert.quiescent_Kernel := fun m g _ => by
  rw [defs_eq]
  exact frame_run (F := Bits) m g

theorem frame_ideal : Cert.quiescent_KernelIdeal := fun m g _ => frame_run (F := Ideal) m g

/-- The reference has no semaphore at all. -/
theorem frame_reference : Cert.quiescent_ReferenceIdeal := fun m g _ =>
  (θ_run ReferenceIdeal.defs _ _).mono
    (fun r h => ⟨fun c => (h c).2, sem_eq_zero_of_no_sems (by decide) r.2⟩)
    (ReferenceIdeal.Value.run (F := Ideal) m g)

theorem value : Cert.algebraic_KernelIdeal_ReferenceIdeal := fun m g m' g' _ hargs =>
  ⟨Exchange.refOut (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1)),
    (θ_run KernelIdeal.defs _ _).mono
      (fun _ h c => ⟨(h.1 c (2 : Fin 3)).trans (funext fun i => (Exchange.final_out m c i).trans
          ((Exchange.out_eq m _ _ (fun d => (hargs d).1) (fun d => (hargs d).2) c i).trans
            (congrArg (Exchange.refOut _ _) (funext fun a => Fin.ext (by
              have hc : c.val < 32 := c.isLt
              fin_cases a
              · show 512 * (c.val / 16) + 128 * ((i (0 : Fin 2)).val / 128) + (i (0 : Fin 2)).val % 128
                  = (c.val / 16 % 2 * 1 + 0) * 512 + (i (0 : Fin 2)).val
                omega
              · show (i (1 : Fin 2)).val = 0 * 512 + (i (1 : Fin 2)).val
                omega))))),
        (h.1 c (0 : Fin 3)).trans (Exchange.final_partial m c), (h.1 c (1 : Fin 3)).trans (Exchange.final_gamma m c)⟩)
      (Exchange.run_main m g),
    (θ_run ReferenceIdeal.defs _ _).mono (fun _ h => h 0) (ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
